-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x8x256x16384 : Shape := ⟨4, ![2, 8, 256, 16384]⟩
abbrev S2x8x16384x256 : Shape := ⟨4, ![2, 8, 16384, 256]⟩
abbrev S2x8x32x128x512 : Shape := ⟨5, ![2, 8, 32, 128, 512]⟩
abbrev S2x8x256x256 : Shape := ⟨4, ![2, 8, 256, 256]⟩
abbrev S2x8x1x128x256 : Shape := ⟨5, ![2, 8, 1, 128, 256]⟩
abbrev S_ : Shape := ⟨0, ![]⟩

class Facts : Prop where
  bcast_S_S2x8x256x16384 : S_.BroadcastsInDim S2x8x256x16384 (![] : Fin 0 → Fin S2x8x256x16384.rank)
  reducesTo_S2x8x256x16384_S_d0_1_2_3 : S2x8x256x16384.ReducesTo [0, 1, 2, 3] S_
  h_S_ : 0 < S_.numel
  bcast_S_S2x8x16384x256 : S_.BroadcastsInDim S2x8x16384x256 (![] : Fin 0 → Fin S2x8x16384x256.rank)
  reducesTo_S2x8x16384x256_S_d0_1_2_3 : S2x8x16384x256.ReducesTo [0, 1, 2, 3] S_
  bcast_S_S2x8x256x256 : S_.BroadcastsInDim S2x8x256x256 (![] : Fin 0 → Fin S2x8x256x256.rank)
  reducesTo_S2x8x256x256_S_d0_1_2_3 : S2x8x256x256.ReducesTo [0, 1, 2, 3] S_

variable [Facts]

def fn_part1 {F : FTy → Type} [FloatOps F] (main_arg3 : FVec F S2x8x256x256 .bf16) (main_v12 : IVec S_ 1) (main_v14 : IVec S2x8x256x256 1) (main_v15 : FVec F S2x8x256x256 .bf16) : IVec S_ 1 :=
  let main_v16 : IVec S2x8x256x256 1 := cmpf .olt main_arg3 main_v15
  let main_v17 : IVec S2x8x256x256 1 := andi main_v14 main_v16
  let main_c_6 : IVec S_ 1 := constantI S_ 1 1#1
  let main_v18 : IVec S_ 1 := (fun x v => Host.reduce IntOp.andi x v reducesTo_S2x8x256x256_S_d0_1_2_3 h_S_) main_v17 main_c_6
  let main_v19 : IVec S_ 1 := andi main_v12 main_v18
  main_v19

def fn {F : FTy → Type} [FloatOps F] (main_arg0 : FVec F S2x8x256x16384 .bf16) (main_arg1 : FVec F S2x8x16384x256 .bf16) (main_arg2 : FVec F S2x8x32x128x512 .bf16) (main_arg3 : FVec F S2x8x256x256 .bf16) (main_arg4 : FVec F S2x8x1x128x256 .bf16) : IVec S_ 1 :=
  let main_cst : FVec F S_ .bf16 := constant S_ .bf16 0xFF80#16
  let main_v0 : FVec F S2x8x256x16384 .bf16 := broadcastInDim S2x8x256x16384 ![] bcast_S_S2x8x256x16384 main_cst
  let main_v1 : IVec S2x8x256x16384 1 := cmpf .ogt main_arg0 main_v0
  let main_cst_0 : FVec F S_ .bf16 := constant S_ .bf16 0x7F80#16
  let main_v2 : FVec F S2x8x256x16384 .bf16 := broadcastInDim S2x8x256x16384 ![] bcast_S_S2x8x256x16384 main_cst_0
  let main_v3 : IVec S2x8x256x16384 1 := cmpf .olt main_arg0 main_v2
  let main_v4 : IVec S2x8x256x16384 1 := andi main_v1 main_v3
  let main_c : IVec S_ 1 := constantI S_ 1 1#1
  let main_v5 : IVec S_ 1 := (fun x v => Host.reduce IntOp.andi x v reducesTo_S2x8x256x16384_S_d0_1_2_3 h_S_) main_v4 main_c
  let main_cst_1 : FVec F S_ .bf16 := constant S_ .bf16 0xFF80#16
  let main_v6 : FVec F S2x8x16384x256 .bf16 := broadcastInDim S2x8x16384x256 ![] bcast_S_S2x8x16384x256 main_cst_1
  let main_v7 : IVec S2x8x16384x256 1 := cmpf .ogt main_arg1 main_v6
  let main_cst_2 : FVec F S_ .bf16 := constant S_ .bf16 0x7F80#16
  let main_v8 : FVec F S2x8x16384x256 .bf16 := broadcastInDim S2x8x16384x256 ![] bcast_S_S2x8x16384x256 main_cst_2
  let main_v9 : IVec S2x8x16384x256 1 := cmpf .olt main_arg1 main_v8
  let main_v10 : IVec S2x8x16384x256 1 := andi main_v7 main_v9
  let main_c_3 : IVec S_ 1 := constantI S_ 1 1#1
  let main_v11 : IVec S_ 1 := (fun x v => Host.reduce IntOp.andi x v reducesTo_S2x8x16384x256_S_d0_1_2_3 h_S_) main_v10 main_c_3
  let main_v12 : IVec S_ 1 := andi main_v5 main_v11
  let main_cst_4 : FVec F S_ .bf16 := constant S_ .bf16 0xFF80#16
  let main_v13 : FVec F S2x8x256x256 .bf16 := broadcastInDim S2x8x256x256 ![] bcast_S_S2x8x256x256 main_cst_4
  let main_v14 : IVec S2x8x256x256 1 := cmpf .ogt main_arg3 main_v13
  let main_cst_5 : FVec F S_ .bf16 := constant S_ .bf16 0x7F80#16
  let main_v15 : FVec F S2x8x256x256 .bf16 := broadcastInDim S2x8x256x256 ![] bcast_S_S2x8x256x256 main_cst_5
  fn_part1 (F := F) main_arg3 main_v12 main_v14 main_v15
-- ==== Kernel.lean ====
abbrev S2x8x256x16384 : Shape := ⟨4, ![2, 8, 256, 16384]⟩
abbrev S2x8x16384x256 : Shape := ⟨4, ![2, 8, 16384, 256]⟩
abbrev S2x8x32x128x512 : Shape := ⟨5, ![2, 8, 32, 128, 512]⟩
abbrev S2x8x256x256 : Shape := ⟨4, ![2, 8, 256, 256]⟩
abbrev S2x8x1x128x256 : Shape := ⟨5, ![2, 8, 1, 128, 256]⟩
abbrev S2x8x128x16384 : Shape := ⟨4, ![2, 8, 128, 16384]⟩
abbrev S1x1x256x512 : Shape := ⟨4, ![1, 1, 256, 512]⟩
abbrev S1x1x16384x256 : Shape := ⟨4, ![1, 1, 16384, 256]⟩
abbrev S1x1x32x128x512 : Shape := ⟨5, ![1, 1, 32, 128, 512]⟩
abbrev S1x1x256x256 : Shape := ⟨4, ![1, 1, 256, 256]⟩
abbrev S1x1x1x128x256 : Shape := ⟨5, ![1, 1, 1, 128, 256]⟩
abbrev S1x1x128x512 : Shape := ⟨4, ![1, 1, 128, 512]⟩
abbrev S2048x512 : Shape := ⟨2, ![2048, 512]⟩
abbrev S256x512 : Shape := ⟨2, ![256, 512]⟩
abbrev S128x512 : Shape := ⟨2, ![128, 512]⟩
abbrev S1x512 : Shape := ⟨2, ![1, 512]⟩
abbrev S8x512 : Shape := ⟨2, ![8, 512]⟩
abbrev S256x256 : Shape := ⟨2, ![256, 256]⟩
abbrev S512 : Shape := ⟨1, ![512]⟩
abbrev S1x1x2048x256 : Shape := ⟨4, ![1, 1, 2048, 256]⟩
abbrev S2048x256 : Shape := ⟨2, ![2048, 256]⟩
abbrev S64x512 : Shape := ⟨2, ![64, 512]⟩
abbrev S8x8x512 : Shape := ⟨3, ![8, 8, 512]⟩
abbrev S128x256 : Shape := ⟨2, ![128, 256]⟩
abbrev S1x1x1x128x512 : Shape := ⟨5, ![1, 1, 1, 128, 512]⟩
abbrev S128x2048 : Shape := ⟨2, ![128, 2048]⟩

abbrev nBuf : Space → Nat
  | .hbm => 6
  | .vmem => 30
  | .smem => 0
  | _ => 0

abbrev bufTy : (tb : Table) → Fin (tcTables nBuf tb) → BufTy
  | .hbm, ⟨0, _⟩ => ⟨S2x8x256x16384, .bf16⟩
  | .hbm, ⟨1, _⟩ => ⟨S2x8x16384x256, .bf16⟩
  | .hbm, ⟨2, _⟩ => ⟨S2x8x32x128x512, .bf16⟩
  | .hbm, ⟨3, _⟩ => ⟨S2x8x256x256, .bf16⟩
  | .hbm, ⟨4, _⟩ => ⟨S2x8x1x128x256, .bf16⟩
  | .hbm, ⟨5, _⟩ => ⟨S2x8x128x16384, .bf16⟩
  | .local _ .vmem, ⟨0, _⟩ => ⟨S1x1x256x512, .bf16⟩
  | .local _ .vmem, ⟨1, _⟩ => ⟨S1x1x256x512, .bf16⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x32x128x512, .bf16⟩
  | .local _ .vmem, ⟨5, _⟩ => ⟨S1x1x32x128x512, .bf16⟩
  | .local _ .vmem, ⟨6, _⟩ => ⟨S1x1x256x256, .bf16⟩
  | .local _ .vmem, ⟨7, _⟩ => ⟨S1x1x256x256, .bf16⟩
  | .local _ .vmem, ⟨8, _⟩ => ⟨S1x1x1x128x256, .bf16⟩
  | .local _ .vmem, ⟨9, _⟩ => ⟨S1x1x1x128x256, .bf16⟩
  | .local _ .vmem, ⟨10, _⟩ => ⟨S1x1x128x512, .bf16⟩
  | .local _ .vmem, ⟨11, _⟩ => ⟨S1x1x128x512, .bf16⟩
  | .local _ .vmem, ⟨12, _⟩ => ⟨S2048x512, .f32⟩
  | .local _ .vmem, ⟨13, _⟩ => ⟨S2048x512, .f32⟩
  | .local _ .vmem, ⟨14, _⟩ => ⟨S2048x512, .bf16⟩
  | .local _ .vmem, ⟨15, _⟩ => ⟨S2048x512, .bf16⟩
  | .local _ .vmem, ⟨16, _⟩ => ⟨S256x512, .f32⟩
  | .local _ .vmem, ⟨17, _⟩ => ⟨S256x512, .bf16⟩
  | .local _ .vmem, ⟨18, _⟩ => ⟨S128x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S8x512, .f32⟩
  | .local _ .vmem, ⟨27, _⟩ => ⟨S8x512, .f32⟩
  | .local _ .vmem, ⟨28, _⟩ => ⟨S8x512, .f32⟩
  | .local _ .vmem, ⟨29, _⟩ => ⟨S8x512, .f32⟩
  | _, _ => ⟨S2x8x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_scratch9 : Ref sig .tc := ⟨.vmem, 21, rfl⟩
abbrev cc0_scratch10 : Ref sig .tc := ⟨.vmem, 22, rfl⟩
abbrev cc0_scratch11 : Ref sig .tc := ⟨.vmem, 23, rfl⟩
abbrev cc0_scratch12 : Ref sig .tc := ⟨.vmem, 24, rfl⟩
abbrev cc0_scratch13 : Ref sig .tc := ⟨.vmem, 25, rfl⟩
abbrev cc0_scratch14 : Ref sig .tc := ⟨.vmem, 26, rfl⟩
abbrev cc0_scratch15 : Ref sig .tc := ⟨.vmem, 27, rfl⟩
abbrev cc0_scratch16 : Ref sig .tc := ⟨.vmem, 28, rfl⟩
abbrev cc0_scratch17 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 32], ![false, false, false]⟩

def k0_mult1 : BitVec 32 :=
  let c0_i32 : BitVec 32 := 0#32
  c0_i32
def k0_mult2 : BitVec 32 :=
  let c2048_i32 : BitVec 32 := 2048#32
  c2048_i32
@[reducible] def k0_t1_loop : Scf.Loop 32 :=
  let c0_i32_238 : BitVec 32 := 0#32
  let c3_i32 : BitVec 32 := 3#32
  let v498 : BitVec 32 := Scalar.addi c0_i32_238 c3_i32
  let c1_i32 : BitVec 32 := 1#32
  ⟨c0_i32_238, v498, c1_i32⟩
def k0_mult3 (k0_t1 : Fin k0_t1_loop.trips) : BitVec 32 :=
  let c2_i32 : BitVec 32 := 2#32
  let c0_i32_238 : BitVec 32 := 0#32
  let c1_i32 : BitVec 32 := 1#32
  let arg27 : BitVec 32 := Scf.iv c0_i32_238 c1_i32 k0_t1
  let v930 : BitVec 32 := Scalar.muli c2_i32 arg27
  let c2_i32_485 : BitVec 32 := 2#32
  let v931 : BitVec 32 := Scalar.addi v930 c2_i32_485
  let c2048_i32_486 : BitVec 32 := 2048#32
  let v932 : BitVec 32 := Scalar.muli v931 c2048_i32_486
  v932
def k0_off1 (k0_t1 : Fin k0_t1_loop.trips) (c2_i32_485 : BitVec 32) : Fin 4 → Nat :=
  let c0_487 : Index := 0#32
  let c0_488 : Index := 0#32
  let c2_i32 : BitVec 32 := 2#32
  let c0_i32_238 : BitVec 32 := 0#32
  let c1_i32 : BitVec 32 := 1#32
  let arg27 : BitVec 32 := Scf.iv c0_i32_238 c1_i32 k0_t1
  let v930 : BitVec 32 := Scalar.muli c2_i32 arg27
  let v931 : BitVec 32 := Scalar.addi v930 c2_i32_485
  let c2048_i32_486 : BitVec 32 := 2048#32
  let v932 : BitVec 32 := Scalar.muli v931 c2048_i32_486
  let v933 : BitVec 32 := v932
  let v934 : Index := Scalar.indexCast v933
  let c0_489 : Index := 0#32
  ![0, 0, v934.toNat, 0]
def k0_off2 (k0_t1 : Fin k0_t1_loop.trips) (c0_i32_500 : BitVec 32) : Fin 5 → Nat :=
  let c0_501 : Index := 0#32
  let c0_502 : Index := 0#32
  let c2_i32 : BitVec 32 := 2#32
  let c0_i32_238 : BitVec 32 := 0#32
  let c1_i32 : BitVec 32 := 1#32
  let arg27 : BitVec 32 := Scf.iv c0_i32_238 c1_i32 k0_t1
  let v930 : BitVec 32 := Scalar.muli c2_i32 arg27
  let c4_i32 : BitVec 32 := 4#32
  let v948 : BitVec 32 := Scalar.muli v930 c4_i32
  let v949 : BitVec 32 := Scalar.addi v948 c0_i32_500
  let v950 : Index := Scalar.indexCast v949
  let c0_503 : Index := 0#32
  let c0_504 : Index := 0#32
  ![0, 0, v950.toNat, 0, 0]
def k0_mult4 (k0_t1 : Fin k0_t1_loop.trips) : BitVec 32 :=
  let c2_i32 : BitVec 32 := 2#32
  let c0_i32_238 : BitVec 32 := 0#32
  let c1_i32 : BitVec 32 := 1#32
  let arg27 : BitVec 32 := Scf.iv c0_i32_238 c1_i32 k0_t1
  let v930 : BitVec 32 := Scalar.muli c2_i32 arg27
  let c3_i32_710 : BitVec 32 := 3#32
  let v1353 : BitVec 32 := Scalar.addi v930 c3_i32_710
  let c2048_i32_711 : BitVec 32 := 2048#32
  let v1354 : BitVec 32 := Scalar.muli v1353 c2048_i32_711
  v1354
def k0_off3 (k0_t1 : Fin k0_t1_loop.trips) (c0_i32_727 : BitVec 32) : Fin 5 → Nat :=
  let c0_728 : Index := 0#32
  let c0_729 : Index := 0#32
  let c2_i32 : BitVec 32 := 2#32
  let c0_i32_238 : BitVec 32 := 0#32
  let c1_i32 : BitVec 32 := 1#32
  let arg27 : BitVec 32 := Scf.iv c0_i32_238 c1_i32 k0_t1
  let v930 : BitVec 32 := Scalar.muli c2_i32 arg27
  let c1_i32_725 : BitVec 32 := 1#32
  let v1370 : BitVec 32 := Scalar.addi v930 c1_i32_725
  let c4_i32_726 : BitVec 32 := 4#32
  let v1371 : BitVec 32 := Scalar.muli v1370 c4_i32_726
  let v1372 : BitVec 32 := Scalar.addi v1371 c0_i32_727
  let v1373 : Index := Scalar.indexCast v1372
  let c0_730 : Index := 0#32
  let c0_731 : Index := 0#32
  ![0, 0, v1373.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x32x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x8x256x16384 : Shape := ⟨4, ![2, 8, 256, 16384]⟩
abbrev S2x8x16384x256 : Shape := ⟨4, ![2, 8, 16384, 256]⟩
abbrev S2x8x32x128x512 : Shape := ⟨5, ![2, 8, 32, 128, 512]⟩
abbrev S2x8x256x256 : Shape := ⟨4, ![2, 8, 256, 256]⟩
abbrev S2x8x1x128x256 : Shape := ⟨5, ![2, 8, 1, 128, 256]⟩
abbrev S2x8x32x512x128 : Shape := ⟨5, ![2, 8, 32, 512, 128]⟩
abbrev S2x8x16384x128 : Shape := ⟨4, ![2, 8, 16384, 128]⟩
abbrev S2x8x128x256 : Shape := ⟨4, ![2, 8, 128, 256]⟩
abbrev S2x8x256x128 : Shape := ⟨4, ![2, 8, 256, 128]⟩
abbrev S2x8x16640x256 : Shape := ⟨4, ![2, 8, 16640, 256]⟩
abbrev S2x8x16640x128 : Shape := ⟨4, ![2, 8, 16640, 128]⟩
abbrev S2x8x16384x16640 : Shape := ⟨4, ![2, 8, 16384, 16640]⟩
abbrev S_ : Shape := ⟨0, ![]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩

abbrev nBuf : Space → Nat
  | .hbm => 36
  | .vmem => 0
  | .smem => 0
  | _ => 0

abbrev bufTy : (tb : Table) → Fin (tcTables nBuf tb) → BufTy
  | .hbm, ⟨0, _⟩ => ⟨S2x8x256x16384, .bf16⟩
  | .hbm, ⟨1, _⟩ => ⟨S2x8x16384x256, .bf16⟩
  | .hbm, ⟨2, _⟩ => ⟨S2x8x32x128x512, .bf16⟩
  | .hbm, ⟨3, _⟩ => ⟨S2x8x256x256, .bf16⟩
  | .hbm, ⟨4, _⟩ => ⟨S2x8x1x128x256, .bf16⟩
  | .hbm, ⟨5, _⟩ => ⟨S2x8x16384x256, .bf16⟩
  | .hbm, ⟨6, _⟩ => ⟨S2x8x32x512x128, .bf16⟩
  | .hbm, ⟨7, _⟩ => ⟨S2x8x16384x128, .bf16⟩
  | .hbm, ⟨8, _⟩ => ⟨S2x8x128x256, .bf16⟩
  | .hbm, ⟨9, _⟩ => ⟨S2x8x256x128, .bf16⟩
  | .hbm, ⟨10, _⟩ => ⟨S2x8x16640x256, .bf16⟩
  | .hbm, ⟨11, _⟩ => ⟨S2x8x16640x128, .bf16⟩
  | .hbm, ⟨12, _⟩ => ⟨S2x8x16384x16640, .f32⟩
  | .hbm, ⟨13, _⟩ => ⟨S2x8x16384x16640, .bf16⟩
  | .hbm, ⟨14, _⟩ => ⟨S2x8x16384x16640, .f32⟩
  | .hbm, ⟨15, _⟩ => ⟨S_, .f32⟩
  | .hbm, ⟨16, _⟩ => ⟨S_, .f32⟩
  | .hbm, ⟨17, _⟩ => ⟨S2x8x16384x16640, .f32⟩
  | .hbm, ⟨18, _⟩ => ⟨S2x8x16384x16640, .f32⟩
  | .hbm, ⟨19, _⟩ => ⟨S_, .f32⟩
  | .hbm, ⟨20, _⟩ => ⟨S2x8x16384, .f32⟩
  | .hbm, ⟨21, _⟩ => ⟨S_, .f32⟩
  | .hbm, ⟨22, _⟩ => ⟨S2x8x16384, .f32⟩
  | .hbm, ⟨23, _⟩ => ⟨S2x8x16384, .f32⟩
  | .hbm, ⟨24, _⟩ => ⟨S2x8x16384x1, .f32⟩
  | .hbm, ⟨25, _⟩ => ⟨S2x8x16384x16640, .f32⟩
  | .hbm, ⟨26, _⟩ => ⟨S2x8x16384x16640, .f32⟩
  | .hbm, ⟨27, _⟩ => ⟨S2x8x16384x16640, .f32⟩
  | .hbm, ⟨28, _⟩ => ⟨S_, .f32⟩
  | .hbm, ⟨29, _⟩ => ⟨S2x8x16384, .f32⟩
  | .hbm, ⟨30, _⟩ => ⟨S2x8x16384x1, .f32⟩
  | .hbm, ⟨31, _⟩ => ⟨S2x8x16384x16640, .f32⟩
  | .hbm, ⟨32, _⟩ => ⟨S2x8x16384x16640, .f32⟩
  | .hbm, ⟨33, _⟩ => ⟨S2x8x16384x16640, .bf16⟩
  | .hbm, ⟨34, _⟩ => ⟨S2x8x128x16384, .f32⟩
  | .hbm, ⟨35, _⟩ => ⟨S2x8x128x16384, .bf16⟩
  | _, _ => ⟨S2x8x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.KI.Spec.lean ====
module

public import proofs.«01_k».proof.Defs
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! # What one grid point computes

The functions of the five input blocks that one grid point's stores leave in its buffers, stated over
the payloads the program names: the scores of a chunk of keys, their row maxima, the weights relative
to the running maximum, and the accumulators. A chunk is 2048 keys, a strip is 64 keys. -/

/-- The keys of chunk `j`. -/
def kchunk (K : Vec F S1x1x16384x256 .bf16) (j : ℕ) : Vec F S1x1x2048x256 .bf16 :=
  View.ld K (Rect.unit (s := S1x1x16384x256) ![0, 0, 2048 * (j % 8), 0] S1x1x2048x256.size (by
    intro a
    have : j % 8 < 8 := Nat.mod_lt _ (by decide)
    fin_cases a <;> simp [S1x1x2048x256, S1x1x16384x256] <;> omega))

/-- Block `j` of the values: 512 of them. -/
def vblk (V : Vec F S1x1x32x128x512 .bf16) (j : ℕ) : Vec F S1x1x1x128x512 .bf16 :=
  View.ld V (Rect.unit (s := S1x1x32x128x512) ![0, 0, j % 32, 0, 0] S1x1x1x128x512.size (by
    intro a
    have : j % 32 < 32 := Nat.mod_lt _ (by decide)
    fin_cases a <;> simp [S1x1x1x128x512, S1x1x32x128x512] <;> omega))

/-- The values of chunk `j`. -/
def vchunk (V : Vec F S1x1x32x128x512 .bf16) (j : ℕ) : FVec F S128x2048 .bf16 :=
  k0_pay97 (vblk V (4 * j)) (vblk V (4 * j + 1)) (vblk V (4 * j + 2)) (vblk V (4 * j + 3))

/-- The weights of a chunk relative to the maximum `m`, as they are stored: whole. -/
def weights (m : FVec F S1x512 .f32) (S : FVec F S2048x512 .f32) : FVec F S2048x512 .bf16 :=
  truncf .bf16 (exp2 (subf S (broadcastTo S2048x512 m (by decide)))) bitsLt_bf16_f32

/-- The same as the program stores them: strip by strip, the last strip first. -/
def strips (m : FVec F S1x512 .f32) (S : FVec F S2048x512 .f32) : List (View.Piece (Elt F) S2048x512 .bf16) :=
  [
    ⟨(Rect.unit (s := S2048x512) ![1984, 0] S64x512.size inb_S2048x512_S64x512_1984_0), k0_pay21 m (View.ld S (Rect.unit (s := S2048x512) ![1984, 0] S64x512.size inb_S2048x512_S64x512_1984_0))⟩,
    ⟨(Rect.unit (s := S2048x512) ![1920, 0] S64x512.size inb_S2048x512_S64x512_1920_0), k0_pay21 m (View.ld S (Rect.unit (s := S2048x512) ![1920, 0] S64x512.size inb_S2048x512_S64x512_1920_0))⟩,
    ⟨(Rect.unit (s := S2048x512) ![1856, 0] S64x512.size inb_S2048x512_S64x512_1856_0), k0_pay21 m (View.ld S (Rect.unit (s := S2048x512) ![1856, 0] S64x512.size inb_S2048x512_S64x512_1856_0))⟩,
    ⟨(Rect.unit (s := S2048x512) ![1792, 0] S64x512.size inb_S2048x512_S64x512_1792_0), k0_pay21 m (View.ld S (Rect.unit (s := S2048x512) ![1792, 0] S64x512.size inb_S2048x512_S64x512_1792_0))⟩,
    ⟨(Rect.unit (s := S2048x512) ![1728, 0] S64x512.size inb_S2048x512_S64x512_1728_0), k0_pay21 m (View.ld S (Rect.unit (s := S2048x512) ![1728, 0] S64x512.size inb_S2048x512_S64x512_1728_0))⟩,
    ⟨(Rect.unit (s := S2048x512) ![1664, 0] S64x512.size inb_S2048x512_S64x512_1664_0), k0_pay21 m (View.ld S (Rect.unit (s := S2048x512) ![1664, 0] S64x512.size inb_S2048x512_S64x512_1664_0))⟩,
    ⟨(Rect.unit (s := S2048x512) ![1600, 0] S64x512.size inb_S2048x512_S64x512_1600_0), k0_pay21 m (View.ld S (Rect.unit (s := S2048x512) ![1600, 0] S64x512.size inb_S2048x512_S64x512_1600_0))⟩,
    ⟨(Rect.unit (s := S2048x512) ![1536, 0] S64x512.size inb_S2048x512_S64x512_1536_0), k0_pay21 m (View.ld S (Rect.unit (s := S2048x512) ![1536, 0] S64x512.size inb_S2048x512_S64x512_1536_0))⟩,
    ⟨(Rect.unit (s := S2048x512) ![1472, 0] S64x512.size inb_S2048x512_S64x512_1472_0), k0_pay21 m (View.ld S (Rect.unit (s := S2048x512) ![1472, 0] S64x512.size inb_S2048x512_S64x512_1472_0))⟩,
    ⟨(Rect.unit (s := S2048x512) ![1408, 0] S64x512.size inb_S2048x512_S64x512_1408_0), k0_pay21 m (View.ld S (Rect.unit (s := S2048x512) ![1408, 0] S64x512.size inb_S2048x512_S64x512_1408_0))⟩,
    ⟨(Rect.unit (s := S2048x512) ![1344, 0] S64x512.size inb_S2048x512_S64x512_1344_0), k0_pay21 m (View.ld S (Rect.unit (s := S2048x512) ![1344, 0] S64x512.size inb_S2048x512_S64x512_1344_0))⟩,
    ⟨(Rect.unit (s := S2048x512) ![1280, 0] S64x512.size inb_S2048x512_S64x512_1280_0), k0_pay21 m (View.ld S (Rect.unit (s := S2048x512) ![1280, 0] S64x512.size inb_S2048x512_S64x512_1280_0))⟩,
    ⟨(Rect.unit (s := S2048x512) ![1216, 0] S64x512.size inb_S2048x512_S64x512_1216_0), k0_pay21 m (View.ld S (Rect.unit (s := S2048x512) ![1216, 0] S64x512.size inb_S2048x512_S64x512_1216_0))⟩,
    ⟨(Rect.unit (s := S2048x512) ![1152, 0] S64x512.size inb_S2048x512_S64x512_1152_0), k0_pay21 m (View.ld S (Rect.unit (s := S2048x512) ![1152, 0] S64x512.size inb_S2048x512_S64x512_1152_0))⟩,
    ⟨(Rect.unit (s := S2048x512) ![1088, 0] S64x512.size inb_S2048x512_S64x512_1088_0), k0_pay21 m (View.ld S (Rect.unit (s := S2048x512) ![1088, 0] S64x512.size inb_S2048x512_S64x512_1088_0))⟩,
    ⟨(Rect.unit (s := S2048x512) ![1024, 0] S64x512.size inb_S2048x512_S64x512_1024_0), k0_pay21 m (View.ld S (Rect.unit (s := S2048x512) ![1024, 0] S64x512.size inb_S2048x512_S64x512_1024_0))⟩,
    ⟨(Rect.unit (s := S2048x512) ![960, 0] S64x512.size inb_S2048x512_S64x512_960_0), k0_pay21 m (View.ld S (Rect.unit (s := S2048x512) ![960, 0] S64x512.size inb_S2048x512_S64x512_960_0))⟩,
    ⟨(Rect.unit (s := S2048x512) ![896, 0] S64x512.size inb_S2048x512_S64x512_896_0), k0_pay21 m (View.ld S (Rect.unit (s := S2048x512) ![896, 0] S64x512.size inb_S2048x512_S64x512_896_0))⟩,
    ⟨(Rect.unit (s := S2048x512) ![832, 0] S64x512.size inb_S2048x512_S64x512_832_0), k0_pay21 m (View.ld S (Rect.unit (s := S2048x512) ![832, 0] S64x512.size inb_S2048x512_S64x512_832_0))⟩,
    ⟨(Rect.unit (s := S2048x512) ![768, 0] S64x512.size inb_S2048x512_S64x512_768_0), k0_pay21 m (View.ld S (Rect.unit (s := S2048x512) ![768, 0] S64x512.size inb_S2048x512_S64x512_768_0))⟩,
    ⟨(Rect.unit (s := S2048x512) ![704, 0] S64x512.size inb_S2048x512_S64x512_704_0), k0_pay21 m (View.ld S (Rect.unit (s := S2048x512) ![704, 0] S64x512.size inb_S2048x512_S64x512_704_0))⟩,
    ⟨(Rect.unit (s := S2048x512) ![640, 0] S64x512.size inb_S2048x512_S64x512_640_0), k0_pay21 m (View.ld S (Rect.unit (s := S2048x512) ![640, 0] S64x512.size inb_S2048x512_S64x512_640_0))⟩,
    ⟨(Rect.unit (s := S2048x512) ![576, 0] S64x512.size inb_S2048x512_S64x512_576_0), k0_pay21 m (View.ld S (Rect.unit (s := S2048x512) ![576, 0] S64x512.size inb_S2048x512_S64x512_576_0))⟩,
    ⟨(Rect.unit (s := S2048x512) ![512, 0] S64x512.size inb_S2048x512_S64x512_512_0), k0_pay21 m (View.ld S (Rect.unit (s := S2048x512) ![512, 0] S64x512.size inb_S2048x512_S64x512_512_0))⟩,
    ⟨(Rect.unit (s := S2048x512) ![448, 0] S64x512.size inb_S2048x512_S64x512_448_0), k0_pay21 m (View.ld S (Rect.unit (s := S2048x512) ![448, 0] S64x512.size inb_S2048x512_S64x512_448_0))⟩,
    ⟨(Rect.unit (s := S2048x512) ![384, 0] S64x512.size inb_S2048x512_S64x512_384_0), k0_pay21 m (View.ld S (Rect.unit (s := S2048x512) ![384, 0] S64x512.size inb_S2048x512_S64x512_384_0))⟩,
    ⟨(Rect.unit (s := S2048x512) ![320, 0] S64x512.size inb_S2048x512_S64x512_320_0), k0_pay21 m (View.ld S (Rect.unit (s := S2048x512) ![320, 0] S64x512.size inb_S2048x512_S64x512_320_0))⟩,
    ⟨(Rect.unit (s := S2048x512) ![256, 0] S64x512.size inb_S2048x512_S64x512_256_0), k0_pay21 m (View.ld S (Rect.unit (s := S2048x512) ![256, 0] S64x512.size inb_S2048x512_S64x512_256_0))⟩,
    ⟨(Rect.unit (s := S2048x512) ![192, 0] S64x512.size inb_S2048x512_S64x512_192_0), k0_pay21 m (View.ld S (Rect.unit (s := S2048x512) ![192, 0] S64x512.size inb_S2048x512_S64x512_192_0))⟩,
    ⟨(Rect.unit (s := S2048x512) ![128, 0] S64x512.size inb_S2048x512_S64x512_128_0), k0_pay21 m (View.ld S (Rect.unit (s := S2048x512) ![128, 0] S64x512.size inb_S2048x512_S64x512_128_0))⟩,
    ⟨(Rect.unit (s := S2048x512) ![64, 0] S64x512.size inb_S2048x512_S64x512_64_0), k0_pay21 m (View.ld S (Rect.unit (s := S2048x512) ![64, 0] S64x512.size inb_S2048x512_S64x512_64_0))⟩,
    ⟨(Rect.unit (s := S2048x512) ![0, 0] S64x512.size inb_S2048x512_S64x512_0_0), k0_pay21 m (View.ld S (Rect.unit (s := S2048x512) ![0, 0] S64x512.size inb_S2048x512_S64x512_0_0))⟩]

/-- The sums of a chunk's weights over each of eight residues of the row: the strips' partial sums, added in order. -/
def wsum (m : FVec F S1x512 .f32) (S : FVec F S2048x512 .f32) : FVec F S8x512 .f32 :=
  addf (addf (addf (addf (addf (addf (addf (addf (addf (addf (addf (addf (addf (addf (addf (addf (addf (addf (addf (addf (addf (addf (addf (addf (addf (addf (addf (addf (addf (addf (addf (k0_pay45 m (View.ld S (Rect.unit (s := S2048x512) ![0, 0] S64x512.size inb_S2048x512_S64x512_0_0)))
    (k0_pay45 m (View.ld S (Rect.unit (s := S2048x512) ![64, 0] S64x512.size inb_S2048x512_S64x512_64_0))))
    (k0_pay45 m (View.ld S (Rect.unit (s := S2048x512) ![128, 0] S64x512.size inb_S2048x512_S64x512_128_0))))
    (k0_pay45 m (View.ld S (Rect.unit (s := S2048x512) ![192, 0] S64x512.size inb_S2048x512_S64x512_192_0))))
    (k0_pay45 m (View.ld S (Rect.unit (s := S2048x512) ![256, 0] S64x512.size inb_S2048x512_S64x512_256_0))))
    (k0_pay45 m (View.ld S (Rect.unit (s := S2048x512) ![320, 0] S64x512.size inb_S2048x512_S64x512_320_0))))
    (k0_pay45 m (View.ld S (Rect.unit (s := S2048x512) ![384, 0] S64x512.size inb_S2048x512_S64x512_384_0))))
    (k0_pay45 m (View.ld S (Rect.unit (s := S2048x512) ![448, 0] S64x512.size inb_S2048x512_S64x512_448_0))))
    (k0_pay45 m (View.ld S (Rect.unit (s := S2048x512) ![512, 0] S64x512.size inb_S2048x512_S64x512_512_0))))
    (k0_pay45 m (View.ld S (Rect.unit (s := S2048x512) ![576, 0] S64x512.size inb_S2048x512_S64x512_576_0))))
    (k0_pay45 m (View.ld S (Rect.unit (s := S2048x512) ![640, 0] S64x512.size inb_S2048x512_S64x512_640_0))))
    (k0_pay45 m (View.ld S (Rect.unit (s := S2048x512) ![704, 0] S64x512.size inb_S2048x512_S64x512_704_0))))
    (k0_pay45 m (View.ld S (Rect.unit (s := S2048x512) ![768, 0] S64x512.size inb_S2048x512_S64x512_768_0))))
    (k0_pay45 m (View.ld S (Rect.unit (s := S2048x512) ![832, 0] S64x512.size inb_S2048x512_S64x512_832_0))))
    (k0_pay45 m (View.ld S (Rect.unit (s := S2048x512) ![896, 0] S64x512.size inb_S2048x512_S64x512_896_0))))
    (k0_pay45 m (View.ld S (Rect.unit (s := S2048x512) ![960, 0] S64x512.size inb_S2048x512_S64x512_960_0))))
    (k0_pay45 m (View.ld S (Rect.unit (s := S2048x512) ![1024, 0] S64x512.size inb_S2048x512_S64x512_1024_0))))
    (k0_pay45 m (View.ld S (Rect.unit (s := S2048x512) ![1088, 0] S64x512.size inb_S2048x512_S64x512_1088_0))))
    (k0_pay45 m (View.ld S (Rect.unit (s := S2048x512) ![1152, 0] S64x512.size inb_S2048x512_S64x512_1152_0))))
    (k0_pay45 m (View.ld S (Rect.unit (s := S2048x512) ![1216, 0] S64x512.size inb_S2048x512_S64x512_1216_0))))
    (k0_pay45 m (View.ld S (Rect.unit (s := S2048x512) ![1280, 0] S64x512.size inb_S2048x512_S64x512_1280_0))))
    (k0_pay45 m (View.ld S (Rect.unit (s := S2048x512) ![1344, 0] S64x512.size inb_S2048x512_S64x512_1344_0))))
    (k0_pay45 m (View.ld S (Rect.unit (s := S2048x512) ![1408, 0] S64x512.size inb_S2048x512_S64x512_1408_0))))
    (k0_pay45 m (View.ld S (Rect.unit (s := S2048x512) ![1472, 0] S64x512.size inb_S2048x512_S64x512_1472_0))))
    (k0_pay45 m (View.ld S (Rect.unit (s := S2048x512) ![1536, 0] S64x512.size inb_S2048x512_S64x512_1536_0))))
    (k0_pay45 m (View.ld S (Rect.unit (s := S2048x512) ![1600, 0] S64x512.size inb_S2048x512_S64x512_1600_0))))
    (k0_pay45 m (View.ld S (Rect.unit (s := S2048x512) ![1664, 0] S64x512.size inb_S2048x512_S64x512_1664_0))))
    (k0_pay45 m (View.ld S (Rect.unit (s := S2048x512) ![1728, 0] S64x512.size inb_S2048x512_S64x512_1728_0))))
    (k0_pay45 m (View.ld S (Rect.unit (s := S2048x512) ![1792, 0] S64x512.size inb_S2048x512_S64x512_1792_0))))
    (k0_pay45 m (View.ld S (Rect.unit (s := S2048x512) ![1856, 0] S64x512.size inb_S2048x512_S64x512_1856_0))))
    (k0_pay45 m (View.ld S (Rect.unit (s := S2048x512) ![1920, 0] S64x512.size inb_S2048x512_S64x512_1920_0))))
    (k0_pay45 m (View.ld S (Rect.unit (s := S2048x512) ![1984, 0] S64x512.size inb_S2048x512_S64x512_1984_0)))

/-- The context block's weights, whole. -/
def cweights (m : FVec F S1x512 .f32) (S : FVec F S256x512 .f32) : FVec F S256x512 .bf16 :=
  truncf .bf16 (exp2 (subf S (broadcastTo S256x512 m (by decide)))) bitsLt_bf16_f32

/-- The context block's weights, strip by strip. -/
def cstrips (m : FVec F S1x512 .f32) (S : FVec F S256x512 .f32) : List (View.Piece (Elt F) S256x512 .bf16) :=
  [
    ⟨(Rect.unit (s := S256x512) ![192, 0] S64x512.size inb_S256x512_S64x512_192_0), k0_pay21 m (View.ld S (Rect.unit (s := S256x512) ![192, 0] S64x512.size inb_S256x512_S64x512_192_0))⟩,
    ⟨(Rect.unit (s := S256x512) ![128, 0] S64x512.size inb_S256x512_S64x512_128_0), k0_pay21 m (View.ld S (Rect.unit (s := S256x512) ![128, 0] S64x512.size inb_S256x512_S64x512_128_0))⟩,
    ⟨(Rect.unit (s := S256x512) ![64, 0] S64x512.size inb_S256x512_S64x512_64_0), k0_pay21 m (View.ld S (Rect.unit (s := S256x512) ![64, 0] S64x512.size inb_S256x512_S64x512_64_0))⟩,
    ⟨(Rect.unit (s := S256x512) ![0, 0] S64x512.size inb_S256x512_S64x512_0_0), k0_pay21 m (View.ld S (Rect.unit (s := S256x512) ![0, 0] S64x512.size inb_S256x512_S64x512_0_0))⟩]

/-- The sums of the context block's weights over each of eight residues of the row. -/
def cwsum (m : FVec F S1x512 .f32) (S : FVec F S256x512 .f32) : FVec F S8x512 .f32 :=
  addf (addf (addf (k0_pay45 m (View.ld S (Rect.unit (s := S256x512) ![0, 0] S64x512.size inb_S256x512_S64x512_0_0)))
    (k0_pay45 m (View.ld S (Rect.unit (s := S256x512) ![64, 0] S64x512.size inb_S256x512_S64x512_64_0))))
    (k0_pay45 m (View.ld S (Rect.unit (s := S256x512) ![128, 0] S64x512.size inb_S256x512_S64x512_128_0))))
    (k0_pay45 m (View.ld S (Rect.unit (s := S256x512) ![192, 0] S64x512.size inb_S256x512_S64x512_192_0)))

/-! ## Reading back what is stored -/

/-- Offsets of zero on two axes. -/
theorem rd2 : (![0, 0] : Fin 2 → ℕ) = fun _ => 0 := by decide
/-- Offsets of zero on four axes. -/
theorem rd4 : (![0, 0, 0, 0] : Fin 4 → ℕ) = fun _ => 0 := by decide
/-- Offsets of zero on five axes. -/
theorem rd5 : (![0, 0, 0, 0, 0] : Fin 5 → ℕ) = fun _ => 0 := by decide

section Read
variable {Val : EltTy → Type} [∀ e, Nonempty (Val e)] {κ : Kind} {sp : Space} {s : Shape} {e : EltTy}

/-- A load of the whole of a buffer reads it all. -/
theorem readAt_whole (v : View sig κ sp s e) {off : Fin s.rank → ℕ} (h : off = fun _ => 0) (inb) (f : v.ty.Contents Val) :
    v.readAt Val (Rect.unit off s.size inb).toLoadRect f = v.read Val f :=
  View.ld_unit_zero h inb _

/-- A load of part of a buffer that was last written whole reads that part of what was written. -/
theorem readCov_part (v : View sig κ sp s e) {off : Fin s.rank → ℕ} (h : off = fun _ => 0) (inb) (w : s.Idx → Val e)
    (L : List (View.Piece Val s e)) (r : Rect s) :
    v.readCov ((⟨Rect.unit off s.size inb, w⟩ : View.Piece Val s e) :: L) r.toLoadRect = View.ld w r := by
  rw [View.readCov_eq_canon', View.canon_cons_unit_zero h]

/-- A buffer last written whole reads what was written. -/
theorem read_whole (v : View sig κ sp s e) {off : Fin s.rank → ℕ} (h : off = fun _ => 0) (inb) (w : s.Idx → Val e)
    (L : List (View.Piece Val s e)) (f : v.ty.Contents Val) :
    v.read Val (v.writes Val f ((⟨Rect.unit off s.size inb, w⟩ : View.Piece Val s e) :: L)) = w := by
  rw [View.read_writes_eq_canon v f _ fun y => ⟨_, List.mem_cons_self, View.mem_set_unit_zero h inb y⟩,
    View.canon_cons_unit_zero h]

end Read

/-- A strip of the weights is computed from the same strip of the scores. -/
theorem weights_strip (m : FVec F S1x512 .f32) (S : FVec F S2048x512 .f32) {o : ℕ} (inb) (x : S64x512.Idx) :
    k0_pay21 m (View.ld S (Rect.unit (s := S2048x512) ![o, 0] S64x512.size inb)) x
      = weights m S ((Rect.unit (s := S2048x512) ![o, 0] S64x512.size inb).emb x) := by
  unfold k0_pay21 weights
  dsimp only
  rw [shapeCast_self]
  have e : broadcastTo S64x512 m broadcasts_S1x512_S64x512 x
      = broadcastTo S2048x512 m (by decide) ((Rect.unit (s := S2048x512) ![o, 0] S64x512.size inb).emb x) := by
    refine congrArg m (funext fun a => ?_)
    fin_cases a
    · rfl
    · exact Fin.ext (show (x 1).val = 0 + 1 * (x 1).val by omega)
  exact congrArg (fun t => FloatOps.truncf _ _ (FloatOps.exp2 (FloatOps.subf (S ((Rect.unit (s := S2048x512) ![o, 0] S64x512.size inb).emb x)) t))) e

/-- The same for the context block. -/
theorem cweights_strip (m : FVec F S1x512 .f32) (S : FVec F S256x512 .f32) {o : ℕ} (inb) (x : S64x512.Idx) :
    k0_pay21 m (View.ld S (Rect.unit (s := S256x512) ![o, 0] S64x512.size inb)) x
      = cweights m S ((Rect.unit (s := S256x512) ![o, 0] S64x512.size inb).emb x) := by
  unfold k0_pay21 cweights
  dsimp only
  rw [shapeCast_self]
  have e : broadcastTo S64x512 m broadcasts_S1x512_S64x512 x
      = broadcastTo S256x512 m (by decide) ((Rect.unit (s := S256x512) ![o, 0] S64x512.size inb).emb x) := by
    refine congrArg m (funext fun a => ?_)
    fin_cases a
    · rfl
    · exact Fin.ext (show (x 1).val = 0 + 1 * (x 1).val by omega)
  exact congrArg (fun t => FloatOps.truncf _ _ (FloatOps.exp2 (FloatOps.subf (S ((Rect.unit (s := S256x512) ![o, 0] S64x512.size inb).emb x)) t))) e

/-- The strips' rectangles cover the chunk. -/
theorem strips_cover (m : FVec F S1x512 .f32) (S : FVec F S2048x512 .f32) (y : S2048x512.Idx) :
    ∃ p ∈ strips m S, y ∈ p.1.set := by
  have inb : ∀ (i : Fin 32) (a : Fin 2), (![64 * i.val, 0] : Fin 2 → ℕ) a + S64x512.size a ≤ S2048x512.size a := by decide
  have h : ∀ i : Fin 32, ∃ p ∈ strips m S, p.1 = Rect.unit (s := S2048x512) ![64 * i.val, 0] S64x512.size (inb i) := by
    intro i
    refine ⟨(strips m S)[31 - i.val]'(by simp only [strips, List.length_cons, List.length_nil]; omega), List.getElem_mem _, ?_⟩
    fin_cases i <;> rfl
  have hy : (y 0).val < 2048 := (y 0).isLt
  obtain ⟨p, hp, e⟩ := h ⟨(y 0).val / 64, by omega⟩
  refine ⟨p, hp, ?_⟩
  rw [e, Rect.mem_set_unit]
  intro a
  fin_cases a
  · exact ⟨by show 64 * ((y 0).val / 64) ≤ (y 0).val; omega, by show (y 0).val < 64 * ((y 0).val / 64) + 64; omega⟩
  · exact ⟨Nat.zero_le _, by show (y 1).val < 0 + 512; have : (y 1).val < 512 := (y 1).isLt; omega⟩

/-- The strips' rectangles cover the context block. -/
theorem cstrips_cover (m : FVec F S1x512 .f32) (S : FVec F S256x512 .f32) (y : S256x512.Idx) :
    ∃ p ∈ cstrips m S, y ∈ p.1.set := by
  have inb : ∀ (i : Fin 4) (a : Fin 2), (![64 * i.val, 0] : Fin 2 → ℕ) a + S64x512.size a ≤ S256x512.size a := by decide
  have h : ∀ i : Fin 4, ∃ p ∈ cstrips m S, p.1 = Rect.unit (s := S256x512) ![64 * i.val, 0] S64x512.size (inb i) := by
    intro i
    refine ⟨(cstrips m S)[3 - i.val]'(by simp only [cstrips, List.length_cons, List.length_nil]; omega), List.getElem_mem _, ?_⟩
    fin_cases i <;> rfl
  have hy : (y 0).val < 256 := (y 0).isLt
  obtain ⟨p, hp, e⟩ := h ⟨(y 0).val / 64, by omega⟩
  refine ⟨p, hp, ?_⟩
  rw [e, Rect.mem_set_unit]
  intro a
  fin_cases a
  · exact ⟨by show 64 * ((y 0).val / 64) ≤ (y 0).val; omega, by show (y 0).val < 64 * ((y 0).val / 64) + 64; omega⟩
  · exact ⟨Nat.zero_le _, by show (y 1).val < 0 + 512; have : (y 1).val < 512 := (y 1).isLt; omega⟩

/-- The strips, stored one after another, leave the weights. -/
theorem canon_strips (m : FVec F S1x512 .f32) (S : FVec F S2048x512 .f32) : View.canon (strips m S) = weights m S := by
  funext y
  refine View.canon_apply_of_pieces (weights m S) (strips m S) ?_ y (strips_cover m S y)
  unfold strips
  simp only [List.forall_mem_cons]
  refine ⟨fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun x => weights_strip m S _ x, fun p hp => absurd hp List.not_mem_nil⟩

/-- The context strips, stored one after another, leave the context weights. -/
theorem canon_cstrips (m : FVec F S1x512 .f32) (S : FVec F S256x512 .f32) : View.canon (cstrips m S) = cweights m S := by
  funext y
  refine View.canon_apply_of_pieces (cweights m S) (cstrips m S) ?_ y (cstrips_cover m S y)
  unfold cstrips
  simp only [List.forall_mem_cons]
  refine ⟨fun x => cweights_strip m S _ x, fun x => cweights_strip m S _ x, fun x => cweights_strip m S _ x, fun x => cweights_strip m S _ x, fun p hp => absurd hp List.not_mem_nil⟩

/-- A buffer into which all strips were stored reads as the weights. -/
theorem read_strips {κ : Kind} {sp : Space} (v : View sig κ sp S2048x512 .bf16) (f) (m : FVec F S1x512 .f32) (S : FVec F S2048x512 .f32) :
    v.read (Elt F) (v.writes (Elt F) f (strips m S)) = weights m S := by
  rw [View.read_writes_eq_canon v f _ (strips_cover m S), canon_strips]

/-- A load of the whole buffer after all strips were stored gives the weights. -/
theorem readCov_strips {κ : Kind} {sp : Space} (v : View sig κ sp S2048x512 .bf16) (m : FVec F S1x512 .f32) (S : FVec F S2048x512 .f32) (inb) :
    v.readCov (strips m S) (Rect.unit (s := S2048x512) ![0, 0] S2048x512.size inb).toLoadRect = weights m S := by
  rw [View.readCov_eq_canon', canon_strips]; exact View.ld_unit_zero (Val := Elt F) (e := .bf16) (S := S2048x512) rd2 inb (weights m S)

/-- The same for the context block. -/
theorem readCov_cstrips {κ : Kind} {sp : Space} (v : View sig κ sp S256x512 .bf16) (m : FVec F S1x512 .f32) (S : FVec F S256x512 .f32) (inb) :
    v.readCov (cstrips m S) (Rect.unit (s := S256x512) ![0, 0] S256x512.size inb).toLoadRect = cweights m S := by
  rw [View.readCov_eq_canon', canon_cstrips]; exact View.ld_unit_zero (Val := Elt F) (e := .bf16) (S := S256x512) rd2 inb (cweights m S)

/-- A load of 2048 rows of the keys from row `2048 * j`, where the offset is the program's own. -/
theorem readAt_kchunk {κ : Kind} {sp : Space} (v : View sig κ sp S1x1x16384x256 .bf16) (f) {K} (hK : v.read (Elt F) f = K)
    (j : ℕ) {off : Fin 4 → ℕ} (h : off = ![0, 0, 2048 * (j % 8), 0]) (inb) :
    v.readAt (Elt F) (Rect.unit (s := S1x1x16384x256) off S1x1x2048x256.size inb).toLoadRect f = kchunk K j := by
  subst h hK; rfl

/-- A load of one block of the values, where the offset is the program's own. -/
theorem readAt_vblk {κ : Kind} {sp : Space} (v : View sig κ sp S1x1x32x128x512 .bf16) (f) {V} (hV : v.read (Elt F) f = V)
    (j : ℕ) {off : Fin 5 → ℕ} (h : off = ![0, 0, j % 32, 0, 0]) (inb) :
    v.readAt (Elt F) (Rect.unit (s := S1x1x32x128x512) off S1x1x1x128x512.size inb).toLoadRect f = vblk V j := by
  subst h hV; rfl

end Cert.Proof.KernelIdeal
-- ==== Proof.KI.Trip.lean ====
module

public import proofs.«01_k».proof.Defs
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.KI.Spec

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none
local notation "𝕄" => MT nD τ sig Unit (Elt F) ℕ (UR sig nD τ) ℕ

/-! # One trip of the loop over the latent chunks -/

/-- What the buffers the loop carries hold between trips: the scores and row maxima of the chunk after next, the
weights, rescaling factor and weight sums of the next chunk, the running maximum, the two accumulators. -/
structure St (F : FTy → Type) [FloatOps F] where
  /-- scores of the odd chunk in flight -/
  S1 : FVec F S2048x512 .f32
  /-- their row maxima -/
  X1 : FVec F S1x512 .f32
  /-- weights of the even chunk in flight -/
  P0 : FVec F S2048x512 .bf16
  /-- its rescaling factor -/
  A0 : FVec F S1x512 .f32
  /-- its weight sums -/
  D0 : FVec F S8x512 .f32
  /-- the running maximum -/
  M : FVec F S1x512 .f32
  /-- the accumulated products of values and weights -/
  AC : FVec F S128x512 .f32
  /-- the accumulated weight sums -/
  L : FVec F S8x512 .f32

/-- What trip `k` makes of them. -/
def St.next (Q : Vec F S1x1x256x512 .bf16) (K : Vec F S1x1x16384x256 .bf16) (V : Vec F S1x1x32x128x512 .bf16) (k : ℕ) (st : St F) : St F :=
  let S0 := k0_pay4 (kchunk K (2 * k + 2)) Q
  let X0 := k0_pay5 (kchunk K (2 * k + 2)) Q
  let M1 := k0_pay10 st.M st.X1
  let M1' := k0_pay11 st.M st.X1
  let M2 := k0_pay10 M1' X0
  { S1 := k0_pay4 (kchunk K (2 * k + 3)) Q
    X1 := k0_pay96 (k0_pay95 (kchunk K (2 * k + 3)) Q)
    P0 := weights M2 S0
    A0 := k0_pay12 M1' X0
    D0 := k0_pay1 (wsum M2 S0)
    M := k0_pay11 M1' X0
    AC := k0_pay99 (vchunk V (2 * k + 1)) (k0_pay98 (k0_pay12 st.M st.X1)
      (k0_pay99 (vchunk V (2 * k)) (k0_pay98 st.A0 st.AC) st.P0)) (weights M1 st.S1)
    L := k0_pay9 (k0_pay12 st.M st.X1) (k0_pay9 st.A0 st.L st.D0) (k0_pay1 (wsum M1 st.S1)) }

/-- The buffers before a trip: the three inputs of the loop, what `st` says, and three buffers at anything. -/
def held (c : Dev nD) (arg3 : Memref sig .tc .vmem S1x1x256x512 .bf16) (arg4 : Memref sig .tc .vmem S1x1x16384x256 .bf16) (arg5 : Memref sig .tc .vmem S1x1x32x128x512 .bf16) (arg9 : Memref sig .tc .vmem S2048x512 .f32) (arg10 : Memref sig .tc .vmem S2048x512 .f32) (arg11 : Memref sig .tc .vmem S2048x512 .bf16) (arg12 : Memref sig .tc .vmem S2048x512 .bf16) (arg15 : Memref sig .tc .vmem S128x512 .f32) (arg16 : Memref sig .tc .vmem S1x512 .f32) (arg17 : Memref sig .tc .vmem S1x512 .f32) (arg18 : Memref sig .tc .vmem S1x512 .f32) (arg20 : Memref sig .tc .vmem S1x512 .f32) (arg21 : Memref sig .tc .vmem S1x512 .f32) (arg23 : Memref sig .tc .vmem S8x512 .f32) (arg24 : Memref sig .tc .vmem S8x512 .f32) (arg25 : Memref sig .tc .vmem S8x512 .f32)
    (Q : Vec F S1x1x256x512 .bf16) (K : Vec F S1x1x16384x256 .bf16) (V : Vec F S1x1x32x128x512 .bf16) (st : St F) : sProp 𝕄 :=
  iprop(∃ (f3 : Buf (Elt F) (arg3.view.loc (c : Thread nD τ))) (f4 : Buf (Elt F) (arg4.view.loc (c : Thread nD τ))) (f5 : Buf (Elt F) (arg5.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f20 : Buf (Elt F) (arg20.view.loc (c : Thread nD τ))) (f21 : Buf (Elt F) (arg21.view.loc (c : Thread nD τ))) (f23 : Buf (Elt F) (arg23.view.loc (c : Thread nD τ))) (f24 : Buf (Elt F) (arg24.view.loc (c : Thread nD τ))) (f25 : Buf (Elt F) (arg25.view.loc (c : Thread nD τ))), (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg20.view.loc (c : Thread nD τ) ↦[arg20.view.set]{fullShare} f20) ∗ (arg21.view.loc (c : Thread nD τ) ↦[arg21.view.set]{fullShare} f21) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ ⌜arg3.view.read (Elt F) f3 = Q ∧ arg4.view.read (Elt F) f4 = K ∧ arg5.view.read (Elt F) f5 = V ∧ arg10.view.read (Elt F) f10 = st.S1 ∧ arg18.view.read (Elt F) f18 = st.X1 ∧ arg11.view.read (Elt F) f11 = st.P0 ∧ arg20.view.read (Elt F) f20 = st.A0 ∧ arg24.view.read (Elt F) f24 = st.D0 ∧ arg16.view.read (Elt F) f16 = st.M ∧ arg15.view.read (Elt F) f15 = st.AC ∧ arg23.view.read (Elt F) f23 = st.L⌝)

/-- Where a trip reads its first chunk of keys. -/
theorem off1_2 (k : Fin k0_t1_loop.trips) : k0_off1 k 2#32 = ![0, 0, 2048 * ((2 * k.val + 2) % 8), 0] := by
  revert k; decide
/-- Where a trip reads its second chunk of keys. -/
theorem off1_3 (k : Fin k0_t1_loop.trips) : k0_off1 k 3#32 = ![0, 0, 2048 * ((2 * k.val + 3) % 8), 0] := by
  revert k; decide
/-- Where a trip reads piece 0 of its first chunk of values. -/
theorem off2_0 (k : Fin k0_t1_loop.trips) : k0_off2 k 0#32 = ![0, 0, (4 * (2 * k.val)) % 32, 0, 0] := by
  revert k; decide
/-- Where a trip reads piece 1 of its first chunk of values. -/
theorem off2_1 (k : Fin k0_t1_loop.trips) : k0_off2 k 1#32 = ![0, 0, (4 * (2 * k.val) + 1) % 32, 0, 0] := by
  revert k; decide
/-- Where a trip reads piece 2 of its first chunk of values. -/
theorem off2_2 (k : Fin k0_t1_loop.trips) : k0_off2 k 2#32 = ![0, 0, (4 * (2 * k.val) + 2) % 32, 0, 0] := by
  revert k; decide
/-- Where a trip reads piece 3 of its first chunk of values. -/
theorem off2_3 (k : Fin k0_t1_loop.trips) : k0_off2 k 3#32 = ![0, 0, (4 * (2 * k.val) + 3) % 32, 0, 0] := by
  revert k; decide
/-- Where a trip reads piece 0 of its second chunk of values. -/
theorem off3_0 (k : Fin k0_t1_loop.trips) : k0_off3 k 0#32 = ![0, 0, (4 * (2 * k.val + 1)) % 32, 0, 0] := by
  revert k; decide
/-- Where a trip reads piece 1 of its second chunk of values. -/
theorem off3_1 (k : Fin k0_t1_loop.trips) : k0_off3 k 1#32 = ![0, 0, (4 * (2 * k.val + 1) + 1) % 32, 0, 0] := by
  revert k; decide
/-- Where a trip reads piece 2 of its second chunk of values. -/
theorem off3_2 (k : Fin k0_t1_loop.trips) : k0_off3 k 2#32 = ![0, 0, (4 * (2 * k.val + 1) + 2) % 32, 0, 0] := by
  revert k; decide
/-- Where a trip reads piece 3 of its second chunk of values. -/
theorem off3_3 (k : Fin k0_t1_loop.trips) : k0_off3 k 3#32 = ![0, 0, (4 * (2 * k.val + 1) + 3) % 32, 0, 0] := by
  revert k; decide

set_option maxHeartbeats 8000000 in
set_option maxRecDepth 65536 in
/-- One trip takes the buffers from one state to the next. -/
theorem trip (c : Dev nD) (i : grid0.Coords) (arg3 : Memref sig .tc .vmem S1x1x256x512 .bf16) (harg3 : arg3.IsWhole) (arg4 : Memref sig .tc .vmem S1x1x16384x256 .bf16) (harg4 : arg4.IsWhole) (arg5 : Memref sig .tc .vmem S1x1x32x128x512 .bf16) (harg5 : arg5.IsWhole) (arg6 : Memref sig .tc .vmem S1x1x256x256 .bf16) (harg6 : arg6.IsWhole) (arg7 : Memref sig .tc .vmem S1x1x1x128x256 .bf16) (harg7 : arg7.IsWhole) (arg8 : Memref sig .tc .vmem S1x1x128x512 .bf16) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .f32) (harg13 : arg13.IsWhole) (arg14 : Memref sig .tc .vmem S256x512 .bf16) (harg14 : arg14.IsWhole) (arg15 : Memref sig .tc .vmem S128x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S8x512 .f32) (harg23 : arg23.IsWhole) (arg24 : Memref sig .tc .vmem S8x512 .f32) (harg24 : arg24.IsWhole) (arg25 : Memref sig .tc .vmem S8x512 .f32) (harg25 : arg25.IsWhole) (arg26 : Memref sig .tc .vmem S8x512 .f32) (harg26 : arg26.IsWhole) (v135 : FVec F S1x512 .f32) (v461 : FVec F S8x512 .f32) (v465 : FVec F S64x512 .f32) (v466 : FVec F S64x512 .bf16) (v467 : Vec F S64x512 .bf16) (k : Fin k0_t1_loop.trips)
    (Q : Vec F S1x1x256x512 .bf16) (K : Vec F S1x1x16384x256 .bf16) (V : Vec F S1x1x32x128x512 .bf16) (st : St F) :
    held c arg3 arg4 arg5 arg9 arg10 arg11 arg12 arg15 arg16 arg17 arg18 arg20 arg21 arg23 arg24 arg25 Q K V st ⊢ wp frame (wpE (defs₀ (F := F)) 𝒱₀ (c : Thread nD τ) none) Set.univ
      (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v135 v461 v465 v466 v467 k ()) (fun _ => held c arg3 arg4 arg5 arg9 arg10 arg11 arg12 arg15 arg16 arg17 arg18 arg20 arg21 arg23 arg24 arg25 Q K V (st.next Q K V k.val)) := by
  unfold held
  iintro ⟨%f3, %f4, %f5, %f9, %f10, %f11, %f12, %f15, %f16, %f17, %f18, %f20, %f21, %f23, %f24, %f25, H3, H4, H5, H9, H10, H11, H12, H15, H16, H17, H18, H20, H21, H23, H24, H25, %hf⟩
  obtain ⟨h3, h4, h5, h10, h18, h11, h20, h24, h16, h15, h23⟩ := hf
  sl_unfold [k0_t1_body]
  sl_exec
  sl_step
  iexists _, _, _, _, _, _, _, _, _, _, _, _, _, _, _, _
  isplitl [H3]; · iexact H3
  isplitl [H4]; · iexact H4
  isplitl [H5]; · iexact H5
  isplitl [H9]; · iexact H9
  isplitl [H10]; · iexact H10
  isplitl [H11]; · iexact H11
  isplitl [H12]; · iexact H12
  isplitl [H15]; · iexact H15
  isplitl [H16]; · iexact H16
  isplitl [H17]; · iexact H17
  isplitl [H18]; · iexact H18
  isplitl [H20]; · iexact H20
  isplitl [H21]; · iexact H21
  isplitl [H23]; · iexact H23
  isplitl [H24]; · iexact H24
  isplitl [H25]; · iexact H25
  ipureintro
  have e3 (inb) := (readAt_whole (s := S1x1x256x512) (e := .bf16) arg3.view rd4 inb f3).trans h3
  have k2 (inb) := readAt_kchunk arg4.view f4 h4 _ (off1_2 k) inb
  have k3 (inb) := readAt_kchunk arg4.view f4 h4 _ (off1_3 k) inb
  have v00 (inb) := readAt_vblk arg5.view f5 h5 _ (off2_0 k) inb
  have v01 (inb) := readAt_vblk arg5.view f5 h5 _ (off2_1 k) inb
  have v02 (inb) := readAt_vblk arg5.view f5 h5 _ (off2_2 k) inb
  have v03 (inb) := readAt_vblk arg5.view f5 h5 _ (off2_3 k) inb
  have v10 (inb) := readAt_vblk arg5.view f5 h5 _ (off3_0 k) inb
  have v11 (inb) := readAt_vblk arg5.view f5 h5 _ (off3_1 k) inb
  have v12 (inb) := readAt_vblk arg5.view f5 h5 _ (off3_2 k) inb
  have v13 (inb) := readAt_vblk arg5.view f5 h5 _ (off3_3 k) inb
  have e10 (inb) := (readAt_whole (s := S2048x512) (e := .f32) arg10.view rd2 inb f10).trans h10
  have e18 (inb) := (readAt_whole (s := S1x512) (e := .f32) arg18.view rd2 inb f18).trans h18
  have e11 (inb) := (readAt_whole (s := S2048x512) (e := .bf16) arg11.view rd2 inb f11).trans h11
  have e20 (inb) := (readAt_whole (s := S1x512) (e := .f32) arg20.view rd2 inb f20).trans h20
  have e24 (inb) := (readAt_whole (s := S8x512) (e := .f32) arg24.view rd2 inb f24).trans h24
  have e16 (inb) := (readAt_whole (s := S1x512) (e := .f32) arg16.view rd2 inb f16).trans h16
  have e15 (inb) := (readAt_whole (s := S128x512) (e := .f32) arg15.view rd2 inb f15).trans h15
  have e23 (inb) := (readAt_whole (s := S8x512) (e := .f32) arg23.view rd2 inb f23).trans h23
  have e12 (m S inb) := readCov_strips (F := F) arg12.view m S inb
  have c15 (inb w L) := View.readCov_cons_toLoadRect (Val := Elt F) arg15.view (Rect.unit (s := S128x512) ![0, 0] S128x512.size inb) w L
  have c16 (inb w L) := View.readCov_cons_toLoadRect (Val := Elt F) arg16.view (Rect.unit (s := S1x512) ![0, 0] S1x512.size inb) w L
  have c17 (inb w L) := View.readCov_cons_toLoadRect (Val := Elt F) arg17.view (Rect.unit (s := S1x512) ![0, 0] S1x512.size inb) w L
  have c21 (inb w L) := View.readCov_cons_toLoadRect (Val := Elt F) arg21.view (Rect.unit (s := S1x512) ![0, 0] S1x512.size inb) w L
  have c23 (inb w L) := View.readCov_cons_toLoadRect (Val := Elt F) arg23.view (Rect.unit (s := S8x512) ![0, 0] S8x512.size inb) w L
  have c25 (inb w L) := View.readCov_cons_toLoadRect (Val := Elt F) arg25.view (Rect.unit (s := S8x512) ![0, 0] S8x512.size inb) w L
  have s10_0 (inb) : arg10.view.readAt (Elt F) (Rect.unit (s := S2048x512) ![0, 0] S64x512.size inb).toLoadRect f10 = View.ld st.S1 (Rect.unit (s := S2048x512) ![0, 0] S64x512.size inb) := by rw [← h10]; rfl
  have s10_64 (inb) : arg10.view.readAt (Elt F) (Rect.unit (s := S2048x512) ![64, 0] S64x512.size inb).toLoadRect f10 = View.ld st.S1 (Rect.unit (s := S2048x512) ![64, 0] S64x512.size inb) := by rw [← h10]; rfl
  have s10_128 (inb) : arg10.view.readAt (Elt F) (Rect.unit (s := S2048x512) ![128, 0] S64x512.size inb).toLoadRect f10 = View.ld st.S1 (Rect.unit (s := S2048x512) ![128, 0] S64x512.size inb) := by rw [← h10]; rfl
  have s10_192 (inb) : arg10.view.readAt (Elt F) (Rect.unit (s := S2048x512) ![192, 0] S64x512.size inb).toLoadRect f10 = View.ld st.S1 (Rect.unit (s := S2048x512) ![192, 0] S64x512.size inb) := by rw [← h10]; rfl
  have s10_256 (inb) : arg10.view.readAt (Elt F) (Rect.unit (s := S2048x512) ![256, 0] S64x512.size inb).toLoadRect f10 = View.ld st.S1 (Rect.unit (s := S2048x512) ![256, 0] S64x512.size inb) := by rw [← h10]; rfl
  have s10_320 (inb) : arg10.view.readAt (Elt F) (Rect.unit (s := S2048x512) ![320, 0] S64x512.size inb).toLoadRect f10 = View.ld st.S1 (Rect.unit (s := S2048x512) ![320, 0] S64x512.size inb) := by rw [← h10]; rfl
  have s10_384 (inb) : arg10.view.readAt (Elt F) (Rect.unit (s := S2048x512) ![384, 0] S64x512.size inb).toLoadRect f10 = View.ld st.S1 (Rect.unit (s := S2048x512) ![384, 0] S64x512.size inb) := by rw [← h10]; rfl
  have s10_448 (inb) : arg10.view.readAt (Elt F) (Rect.unit (s := S2048x512) ![448, 0] S64x512.size inb).toLoadRect f10 = View.ld st.S1 (Rect.unit (s := S2048x512) ![448, 0] S64x512.size inb) := by rw [← h10]; rfl
  have s10_512 (inb) : arg10.view.readAt (Elt F) (Rect.unit (s := S2048x512) ![512, 0] S64x512.size inb).toLoadRect f10 = View.ld st.S1 (Rect.unit (s := S2048x512) ![512, 0] S64x512.size inb) := by rw [← h10]; rfl
  have s10_576 (inb) : arg10.view.readAt (Elt F) (Rect.unit (s := S2048x512) ![576, 0] S64x512.size inb).toLoadRect f10 = View.ld st.S1 (Rect.unit (s := S2048x512) ![576, 0] S64x512.size inb) := by rw [← h10]; rfl
  have s10_640 (inb) : arg10.view.readAt (Elt F) (Rect.unit (s := S2048x512) ![640, 0] S64x512.size inb).toLoadRect f10 = View.ld st.S1 (Rect.unit (s := S2048x512) ![640, 0] S64x512.size inb) := by rw [← h10]; rfl
  have s10_704 (inb) : arg10.view.readAt (Elt F) (Rect.unit (s := S2048x512) ![704, 0] S64x512.size inb).toLoadRect f10 = View.ld st.S1 (Rect.unit (s := S2048x512) ![704, 0] S64x512.size inb) := by rw [← h10]; rfl
  have s10_768 (inb) : arg10.view.readAt (Elt F) (Rect.unit (s := S2048x512) ![768, 0] S64x512.size inb).toLoadRect f10 = View.ld st.S1 (Rect.unit (s := S2048x512) ![768, 0] S64x512.size inb) := by rw [← h10]; rfl
  have s10_832 (inb) : arg10.view.readAt (Elt F) (Rect.unit (s := S2048x512) ![832, 0] S64x512.size inb).toLoadRect f10 = View.ld st.S1 (Rect.unit (s := S2048x512) ![832, 0] S64x512.size inb) := by rw [← h10]; rfl
  have s10_896 (inb) : arg10.view.readAt (Elt F) (Rect.unit (s := S2048x512) ![896, 0] S64x512.size inb).toLoadRect f10 = View.ld st.S1 (Rect.unit (s := S2048x512) ![896, 0] S64x512.size inb) := by rw [← h10]; rfl
  have s10_960 (inb) : arg10.view.readAt (Elt F) (Rect.unit (s := S2048x512) ![960, 0] S64x512.size inb).toLoadRect f10 = View.ld st.S1 (Rect.unit (s := S2048x512) ![960, 0] S64x512.size inb) := by rw [← h10]; rfl
  have s10_1024 (inb) : arg10.view.readAt (Elt F) (Rect.unit (s := S2048x512) ![1024, 0] S64x512.size inb).toLoadRect f10 = View.ld st.S1 (Rect.unit (s := S2048x512) ![1024, 0] S64x512.size inb) := by rw [← h10]; rfl
  have s10_1088 (inb) : arg10.view.readAt (Elt F) (Rect.unit (s := S2048x512) ![1088, 0] S64x512.size inb).toLoadRect f10 = View.ld st.S1 (Rect.unit (s := S2048x512) ![1088, 0] S64x512.size inb) := by rw [← h10]; rfl
  have s10_1152 (inb) : arg10.view.readAt (Elt F) (Rect.unit (s := S2048x512) ![1152, 0] S64x512.size inb).toLoadRect f10 = View.ld st.S1 (Rect.unit (s := S2048x512) ![1152, 0] S64x512.size inb) := by rw [← h10]; rfl
  have s10_1216 (inb) : arg10.view.readAt (Elt F) (Rect.unit (s := S2048x512) ![1216, 0] S64x512.size inb).toLoadRect f10 = View.ld st.S1 (Rect.unit (s := S2048x512) ![1216, 0] S64x512.size inb) := by rw [← h10]; rfl
  have s10_1280 (inb) : arg10.view.readAt (Elt F) (Rect.unit (s := S2048x512) ![1280, 0] S64x512.size inb).toLoadRect f10 = View.ld st.S1 (Rect.unit (s := S2048x512) ![1280, 0] S64x512.size inb) := by rw [← h10]; rfl
  have s10_1344 (inb) : arg10.view.readAt (Elt F) (Rect.unit (s := S2048x512) ![1344, 0] S64x512.size inb).toLoadRect f10 = View.ld st.S1 (Rect.unit (s := S2048x512) ![1344, 0] S64x512.size inb) := by rw [← h10]; rfl
  have s10_1408 (inb) : arg10.view.readAt (Elt F) (Rect.unit (s := S2048x512) ![1408, 0] S64x512.size inb).toLoadRect f10 = View.ld st.S1 (Rect.unit (s := S2048x512) ![1408, 0] S64x512.size inb) := by rw [← h10]; rfl
  have s10_1472 (inb) : arg10.view.readAt (Elt F) (Rect.unit (s := S2048x512) ![1472, 0] S64x512.size inb).toLoadRect f10 = View.ld st.S1 (Rect.unit (s := S2048x512) ![1472, 0] S64x512.size inb) := by rw [← h10]; rfl
  have s10_1536 (inb) : arg10.view.readAt (Elt F) (Rect.unit (s := S2048x512) ![1536, 0] S64x512.size inb).toLoadRect f10 = View.ld st.S1 (Rect.unit (s := S2048x512) ![1536, 0] S64x512.size inb) := by rw [← h10]; rfl
  have s10_1600 (inb) : arg10.view.readAt (Elt F) (Rect.unit (s := S2048x512) ![1600, 0] S64x512.size inb).toLoadRect f10 = View.ld st.S1 (Rect.unit (s := S2048x512) ![1600, 0] S64x512.size inb) := by rw [← h10]; rfl
  have s10_1664 (inb) : arg10.view.readAt (Elt F) (Rect.unit (s := S2048x512) ![1664, 0] S64x512.size inb).toLoadRect f10 = View.ld st.S1 (Rect.unit (s := S2048x512) ![1664, 0] S64x512.size inb) := by rw [← h10]; rfl
  have s10_1728 (inb) : arg10.view.readAt (Elt F) (Rect.unit (s := S2048x512) ![1728, 0] S64x512.size inb).toLoadRect f10 = View.ld st.S1 (Rect.unit (s := S2048x512) ![1728, 0] S64x512.size inb) := by rw [← h10]; rfl
  have s10_1792 (inb) : arg10.view.readAt (Elt F) (Rect.unit (s := S2048x512) ![1792, 0] S64x512.size inb).toLoadRect f10 = View.ld st.S1 (Rect.unit (s := S2048x512) ![1792, 0] S64x512.size inb) := by rw [← h10]; rfl
  have s10_1856 (inb) : arg10.view.readAt (Elt F) (Rect.unit (s := S2048x512) ![1856, 0] S64x512.size inb).toLoadRect f10 = View.ld st.S1 (Rect.unit (s := S2048x512) ![1856, 0] S64x512.size inb) := by rw [← h10]; rfl
  have s10_1920 (inb) : arg10.view.readAt (Elt F) (Rect.unit (s := S2048x512) ![1920, 0] S64x512.size inb).toLoadRect f10 = View.ld st.S1 (Rect.unit (s := S2048x512) ![1920, 0] S64x512.size inb) := by rw [← h10]; rfl
  have s10_1984 (inb) : arg10.view.readAt (Elt F) (Rect.unit (s := S2048x512) ![1984, 0] S64x512.size inb).toLoadRect f10 = View.ld st.S1 (Rect.unit (s := S2048x512) ![1984, 0] S64x512.size inb) := by rw [← h10]; rfl
  refine ⟨h3, h4, h5, ?_, ?_, ?_, ?_, ?_, ?_, ?_, ?_⟩
  · refine (read_whole (s := S2048x512) (e := .f32) arg10.view rd2 _ _ _ _).trans ?_
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl
  · refine (read_whole (s := S1x512) (e := .f32) arg18.view rd2 _ _ _ _).trans ?_
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    dsimp only [St.next]
  · refine Eq.trans ?_ (read_strips (F := F) arg11.view f11 (k0_pay10 (k0_pay11 st.M st.X1) (k0_pay5 (kchunk K (2 * k.val + 2)) Q)) (k0_pay4 (kchunk K (2 * k.val + 2)) Q))
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl
  · refine (read_whole (s := S1x512) (e := .f32) arg20.view rd2 _ _ _ _).trans ?_
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl
  · refine (read_whole (s := S8x512) (e := .f32) arg24.view rd2 _ _ _ _).trans ?_
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl
  · refine (read_whole (s := S1x512) (e := .f32) arg16.view rd2 _ _ _ _).trans ?_
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl
  · refine (read_whole (s := S128x512) (e := .f32) arg15.view rd2 _ _ _ _).trans ?_
    have p12 : trip.sl.v1396 c arg10 arg12 arg16 arg18 f10 f16 f18 = weights (k0_pay10 st.M st.X1) st.S1 := by
      refine Eq.trans ?_ (e12 (k0_pay10 st.M st.X1) st.S1 inb_S2048x512_S2048x512_0_0)
      sl_unfold_run_names
      simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
      rfl
    rw [p12]
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl
  · refine (read_whole (s := S8x512) (e := .f32) arg23.view rd2 _ _ _ _).trans ?_
    sl_unfold_run_names
    simp only [readCov_part (s := S2048x512) (e := .f32) arg9.view rd2, e3, k2, k3, v00, v01, v02, v03, v10, v11, v12, v13, e10, e18, e11, e20, e24, e16, e15, e23, c15, c16, c17, c21, c23, c25, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984]
    rfl

end Cert.Proof.KernelIdeal
-- ==== Proof.KI.Body.lean ====
module

public import proofs.«01_k».proof.Defs
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.KI.Trip

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! # One grid point, whole -/

/-- What the buffers the loop carries hold when it starts: the context block accumulated, the first chunk's weights
and the second chunk's scores in flight. -/
def St.init (Q : Vec F S1x1x256x512 .bf16) (K : Vec F S1x1x16384x256 .bf16)
    (KC : Vec F S1x1x256x256 .bf16) (VC : Vec F S1x1x1x128x256 .bf16) : St F :=
  let XC := k0_pay185 KC Q
  let MC := k0_pay190 k0_pay180 XC
  let S0 := k0_pay187 (kchunk K 0) Q
  let X0 := k0_pay188 (kchunk K 0) Q
  { S1 := k0_pay202 (kchunk K 1) Q
    X1 := k0_pay203 (kchunk K 1) Q
    P0 := weights (k0_pay206 MC X0) S0
    A0 := k0_pay208 MC X0
    D0 := k0_pay1 (wsum (k0_pay206 MC X0) S0)
    M := k0_pay207 MC X0
    AC := k0_pay204 VC (k0_pay191 k0_pay180 XC) k0_pay181 (cweights (k0_pay189 k0_pay180 XC) (k0_pay184 KC Q))
    L := k0_pay205 (k0_pay191 k0_pay180 XC) k0_pay182 (k0_pay1 (cwsum (k0_pay189 k0_pay180 XC) (k0_pay184 KC Q))) }

/-- What they hold before trip `k`. -/
def St.at (Q : Vec F S1x1x256x512 .bf16) (K : Vec F S1x1x16384x256 .bf16) (V : Vec F S1x1x32x128x512 .bf16)
    (KC : Vec F S1x1x256x256 .bf16) (VC : Vec F S1x1x1x128x256 .bf16) : ℕ → St F
  | 0 => St.init Q K KC VC
  | k + 1 => (St.at Q K V KC VC k).next Q K V k

/-- Before the first trip the state is the one the prologue leaves. -/
theorem St.at_zero (Q : Vec F S1x1x256x512 .bf16) (K : Vec F S1x1x16384x256 .bf16) (V : Vec F S1x1x32x128x512 .bf16)
    (KC : Vec F S1x1x256x256 .bf16) (VC : Vec F S1x1x1x128x256 .bf16) : St.at Q K V KC VC 0 = St.init Q K KC VC := rfl

/-- The two accumulators after the last two chunks. -/
def St.lastAC (V : Vec F S1x1x32x128x512 .bf16) (st : St F) : FVec F S128x512 .f32 :=
  k0_pay99 (vchunk V 7) (k0_pay98 (k0_pay12 st.M st.X1) (k0_pay99 (vchunk V 6) (k0_pay98 st.A0 st.AC) st.P0))
    (weights (k0_pay10 st.M st.X1) st.S1)

/-- The weight sums after the last chunk. -/
def St.lastL (st : St F) : FVec F S8x512 .f32 :=
  k0_pay9 (k0_pay12 st.M st.X1) (k0_pay9 st.A0 st.L st.D0) (k0_pay1 (wsum (k0_pay10 st.M st.X1) st.S1))

/-- The block one grid point stores. -/
def OUT (Q : Vec F S1x1x256x512 .bf16) (K : Vec F S1x1x16384x256 .bf16) (V : Vec F S1x1x32x128x512 .bf16) (KC : Vec F S1x1x256x256 .bf16) (VC : Vec F S1x1x1x128x256 .bf16) : FVec F S1x1x128x512 .bf16 :=
  k0_pay2 ((St.at Q K V KC VC 3).lastAC V) (St.at Q K V KC VC 3).lastL

/-- All the buffers of one grid point: the five inputs as given, the rest at anything. -/
def allHeld (c : Dev nD) (arg3 : Memref sig .tc .vmem S1x1x256x512 .bf16) (arg4 : Memref sig .tc .vmem S1x1x16384x256 .bf16) (arg5 : Memref sig .tc .vmem S1x1x32x128x512 .bf16) (arg6 : Memref sig .tc .vmem S1x1x256x256 .bf16) (arg7 : Memref sig .tc .vmem S1x1x1x128x256 .bf16) (arg8 : Memref sig .tc .vmem S1x1x128x512 .bf16) (arg9 : Memref sig .tc .vmem S2048x512 .f32) (arg10 : Memref sig .tc .vmem S2048x512 .f32) (arg11 : Memref sig .tc .vmem S2048x512 .bf16) (arg12 : Memref sig .tc .vmem S2048x512 .bf16) (arg13 : Memref sig .tc .vmem S256x512 .f32) (arg14 : Memref sig .tc .vmem S256x512 .bf16) (arg15 : Memref sig .tc .vmem S128x512 .f32) (arg16 : Memref sig .tc .vmem S1x512 .f32) (arg17 : Memref sig .tc .vmem S1x512 .f32) (arg18 : Memref sig .tc .vmem S1x512 .f32) (arg19 : Memref sig .tc .vmem S1x512 .f32) (arg20 : Memref sig .tc .vmem S1x512 .f32) (arg21 : Memref sig .tc .vmem S1x512 .f32) (arg22 : Memref sig .tc .vmem S1x512 .f32) (arg23 : Memref sig .tc .vmem S8x512 .f32) (arg24 : Memref sig .tc .vmem S8x512 .f32) (arg25 : Memref sig .tc .vmem S8x512 .f32) (arg26 : Memref sig .tc .vmem S8x512 .f32) (Q : Vec F S1x1x256x512 .bf16) (K : Vec F S1x1x16384x256 .bf16) (V : Vec F S1x1x32x128x512 .bf16) (KC : Vec F S1x1x256x256 .bf16) (VC : Vec F S1x1x1x128x256 .bf16) : sProp 𝕄 :=
  iprop(∃ (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))), (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ ⌜arg3.view.read (Elt F) f3 = Q ∧ arg4.view.read (Elt F) f4 = K ∧ arg5.view.read (Elt F) f5 = V ∧ arg6.view.read (Elt F) f6 = KC ∧ arg7.view.read (Elt F) f7 = VC⌝)

/-- The same with the output block stored. -/
def allDone (c : Dev nD) (arg3 : Memref sig .tc .vmem S1x1x256x512 .bf16) (arg4 : Memref sig .tc .vmem S1x1x16384x256 .bf16) (arg5 : Memref sig .tc .vmem S1x1x32x128x512 .bf16) (arg6 : Memref sig .tc .vmem S1x1x256x256 .bf16) (arg7 : Memref sig .tc .vmem S1x1x1x128x256 .bf16) (arg8 : Memref sig .tc .vmem S1x1x128x512 .bf16) (arg9 : Memref sig .tc .vmem S2048x512 .f32) (arg10 : Memref sig .tc .vmem S2048x512 .f32) (arg11 : Memref sig .tc .vmem S2048x512 .bf16) (arg12 : Memref sig .tc .vmem S2048x512 .bf16) (arg13 : Memref sig .tc .vmem S256x512 .f32) (arg14 : Memref sig .tc .vmem S256x512 .bf16) (arg15 : Memref sig .tc .vmem S128x512 .f32) (arg16 : Memref sig .tc .vmem S1x512 .f32) (arg17 : Memref sig .tc .vmem S1x512 .f32) (arg18 : Memref sig .tc .vmem S1x512 .f32) (arg19 : Memref sig .tc .vmem S1x512 .f32) (arg20 : Memref sig .tc .vmem S1x512 .f32) (arg21 : Memref sig .tc .vmem S1x512 .f32) (arg22 : Memref sig .tc .vmem S1x512 .f32) (arg23 : Memref sig .tc .vmem S8x512 .f32) (arg24 : Memref sig .tc .vmem S8x512 .f32) (arg25 : Memref sig .tc .vmem S8x512 .f32) (arg26 : Memref sig .tc .vmem S8x512 .f32) (Q : Vec F S1x1x256x512 .bf16) (K : Vec F S1x1x16384x256 .bf16) (V : Vec F S1x1x32x128x512 .bf16) (KC : Vec F S1x1x256x256 .bf16) (VC : Vec F S1x1x1x128x256 .bf16) : sProp 𝕄 :=
  iprop(∃ (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ))) (f20 : Buf (Elt F) (arg20.view.loc (c : Thread nD τ))) (f21 : Buf (Elt F) (arg21.view.loc (c : Thread nD τ))) (f22 : Buf (Elt F) (arg22.view.loc (c : Thread nD τ))) (f23 : Buf (Elt F) (arg23.view.loc (c : Thread nD τ))) (f24 : Buf (Elt F) (arg24.view.loc (c : Thread nD τ))) (f25 : Buf (Elt F) (arg25.view.loc (c : Thread nD τ))) (f26 : Buf (Elt F) (arg26.view.loc (c : Thread nD τ))), (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22) ∗ (arg23.view.loc (c : Thread nD τ) ↦[arg23.view.set]{fullShare} f23) ∗ (arg24.view.loc (c : Thread nD τ) ↦[arg24.view.set]{fullShare} f24) ∗ (arg25.view.loc (c : Thread nD τ) ↦[arg25.view.set]{fullShare} f25) ∗ (arg26.view.loc (c : Thread nD τ) ↦[arg26.view.set]{fullShare} f26) ∗ ⌜arg3.view.read (Elt F) f3 = Q ∧ arg4.view.read (Elt F) f4 = K ∧ arg5.view.read (Elt F) f5 = V ∧ arg6.view.read (Elt F) f6 = KC ∧ arg7.view.read (Elt F) f7 = VC ∧ arg8.view.read (Elt F) f8 = OUT Q K V KC VC⌝)

/-- A buffer filled by strips of weights reads as the weights. -/
theorem read_of_strips {κ : Kind} {sp : Space} (v : View sig κ sp S2048x512 .bf16) (f) (L : List (View.Piece (Elt F) S2048x512 .bf16))
    (m : FVec F S1x512 .f32) (S : FVec F S2048x512 .f32) (h : L = strips m S) :
    v.read (Elt F) (v.writes (Elt F) f L) = weights m S := by
  rw [h, read_strips]

set_option maxHeartbeats 8000000 in
set_option maxRecDepth 65536 in
/-- One grid point's body leaves the output block of its five inputs. -/
theorem body (c : Dev nD) (i : grid0.Coords) (arg3 : Memref sig .tc .vmem S1x1x256x512 .bf16) (harg3 : arg3.IsWhole) (arg4 : Memref sig .tc .vmem S1x1x16384x256 .bf16) (harg4 : arg4.IsWhole) (arg5 : Memref sig .tc .vmem S1x1x32x128x512 .bf16) (harg5 : arg5.IsWhole) (arg6 : Memref sig .tc .vmem S1x1x256x256 .bf16) (harg6 : arg6.IsWhole) (arg7 : Memref sig .tc .vmem S1x1x1x128x256 .bf16) (harg7 : arg7.IsWhole) (arg8 : Memref sig .tc .vmem S1x1x128x512 .bf16) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S256x512 .f32) (harg13 : arg13.IsWhole) (arg14 : Memref sig .tc .vmem S256x512 .bf16) (harg14 : arg14.IsWhole) (arg15 : Memref sig .tc .vmem S128x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S1x512 .f32) (harg22 : arg22.IsWhole) (arg23 : Memref sig .tc .vmem S8x512 .f32) (harg23 : arg23.IsWhole) (arg24 : Memref sig .tc .vmem S8x512 .f32) (harg24 : arg24.IsWhole) (arg25 : Memref sig .tc .vmem S8x512 .f32) (harg25 : arg25.IsWhole) (arg26 : Memref sig .tc .vmem S8x512 .f32) (harg26 : arg26.IsWhole)  (Q : Vec F S1x1x256x512 .bf16) (K : Vec F S1x1x16384x256 .bf16) (V : Vec F S1x1x32x128x512 .bf16) (KC : Vec F S1x1x256x256 .bf16) (VC : Vec F S1x1x1x128x256 .bf16) :
  allHeld c arg3 arg4 arg5 arg6 arg7 arg8 arg9 arg10 arg11 arg12 arg13 arg14 arg15 arg16 arg17 arg18 arg19 arg20 arg21 arg22 arg23 arg24 arg25 arg26 Q K V KC VC ⊢ wp frame (wpE (defs₀ (F := F)) 𝒱₀ (c : Thread nD τ) none) Set.univ (cc0_mla_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) (fun _ => allDone c arg3 arg4 arg5 arg6 arg7 arg8 arg9 arg10 arg11 arg12 arg13 arg14 arg15 arg16 arg17 arg18 arg19 arg20 arg21 arg22 arg23 arg24 arg25 arg26 Q K V KC VC) := by
  unfold allHeld
  iintro ⟨%f3, %f4, %f5, %f6, %f7, %f8, %f9, %f10, %f11, %f12, %f13, %f14, %f15, %f16, %f17, %f18, %f19, %f20, %f21, %f22, %f23, %f24, %f25, %f26, H3, H4, H5, H6, H7, H8, H9, H10, H11, H12, H13, H14, H15, H16, H17, H18, H19, H20, H21, H22, H23, H24, H25, H26, %hf⟩
  obtain ⟨h3, h4, h5, h6, h7⟩ := hf
  sl_unfold [cc0_mla_attention]
  sl_exec
  iapply (Scf.wp_for_bind _ _ _ _ _ _ _ _ _ (fun k _ => held c arg3 arg4 arg5 arg9 arg10 arg11 arg12 arg15 arg16 arg17 arg18 arg20 arg21 arg23 arg24 arg25 Q K V (St.at Q K V KC VC k))
    (fun k _ => trip c _ _ _ _ _ _ _ _ _ _ _ _ _ _ _ _ _ _ _ _ _ _ _ _ _ _ _ _ _ _ _ _ _ _ _ _ _ _ _ _ _ _ _ _ _ _ _ _ _ _ _ _ _ _ k Q K V (St.at Q K V KC VC k.val))) $$ [H3 H4 H5 H9 H10 H11 H12 H15 H16 H17 H18 H20 H21 H23 H24 H25]
  · unfold held
    iexists _, _, _, _, _, _, _, _, _, _, _, _, _, _, _, _
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H15]; · iexact H15
    isplitl [H16]; · iexact H16
    isplitl [H17]; · iexact H17
    isplitl [H18]; · iexact H18
    isplitl [H20]; · iexact H20
    isplitl [H21]; · iexact H21
    isplitl [H23]; · iexact H23
    isplitl [H24]; · iexact H24
    isplitl [H25]; · iexact H25
    ipureintro
    have e3 (inb) := (readAt_whole (s := S1x1x256x512) (e := .bf16) arg3.view rd4 inb f3).trans h3
    have e6 (inb) := (readAt_whole (s := S1x1x256x256) (e := .bf16) arg6.view rd4 inb f6).trans h6
    have e7 (inb) := (readAt_whole (s := S1x1x1x128x256) (e := .bf16) arg7.view rd5 inb f7).trans h7
    have kk0 (inb) := readAt_kchunk arg4.view f4 h4 0 (off := ![0, 0, 0, 0]) rfl inb
    have kk1 (inb) := readAt_kchunk arg4.view f4 h4 1 (off := ![0, 0, 2048, 0]) rfl inb
    have e14 (m S inb) := readCov_cstrips (F := F) arg14.view m S inb
    have c15 (inb w L) := View.readCov_cons_toLoadRect (Val := Elt F) arg15.view (Rect.unit (s := S128x512) ![0, 0] S128x512.size inb) w L
    have c16 (inb w L) := View.readCov_cons_toLoadRect (Val := Elt F) arg16.view (Rect.unit (s := S1x512) ![0, 0] S1x512.size inb) w L
    have c17 (inb w L) := View.readCov_cons_toLoadRect (Val := Elt F) arg17.view (Rect.unit (s := S1x512) ![0, 0] S1x512.size inb) w L
    have c19 (inb w L) := View.readCov_cons_toLoadRect (Val := Elt F) arg19.view (Rect.unit (s := S1x512) ![0, 0] S1x512.size inb) w L
    have c22 (inb w L) := View.readCov_cons_toLoadRect (Val := Elt F) arg22.view (Rect.unit (s := S1x512) ![0, 0] S1x512.size inb) w L
    have c23 (inb w L) := View.readCov_cons_toLoadRect (Val := Elt F) arg23.view (Rect.unit (s := S8x512) ![0, 0] S8x512.size inb) w L
    have c26 (inb w L) := View.readCov_cons_toLoadRect (Val := Elt F) arg26.view (Rect.unit (s := S8x512) ![0, 0] S8x512.size inb) w L
    rw [St.at_zero]
    dsimp only [St.init]
    refine ⟨h3, h4, h5, ?_, ?_, ?_, ?_, ?_, ?_, ?_, ?_⟩
    · refine (read_whole (s := S2048x512) (e := .f32) arg10.view rd2 _ _ _ _).trans ?_
      sl_unfold_run_names
      simp only [readCov_part (s := S2048x512) (e := .f32) arg9.view rd2, readCov_part (s := S256x512) (e := .f32) arg13.view rd2, e3, e6, e7, kk0, kk1, c15, c16, c17, c19, c22, c23, c26]
    · refine (read_whole (s := S1x512) (e := .f32) arg18.view rd2 _ _ _ _).trans ?_
      sl_unfold_run_names
      simp only [readCov_part (s := S2048x512) (e := .f32) arg9.view rd2, readCov_part (s := S256x512) (e := .f32) arg13.view rd2, e3, e6, e7, kk0, kk1, c15, c16, c17, c19, c22, c23, c26]
    · refine read_of_strips (F := F) arg11.view _ _ _ _ ?_
      sl_unfold_run_names
      simp only [readCov_part (s := S2048x512) (e := .f32) arg9.view rd2, readCov_part (s := S256x512) (e := .f32) arg13.view rd2, e3, e6, e7, kk0, kk1, c15, c16, c17, c19, c22, c23, c26]
      rfl
    · refine (read_whole (s := S1x512) (e := .f32) arg20.view rd2 _ _ _ _).trans ?_
      sl_unfold_run_names
      simp only [readCov_part (s := S2048x512) (e := .f32) arg9.view rd2, readCov_part (s := S256x512) (e := .f32) arg13.view rd2, e3, e6, e7, kk0, kk1, c15, c16, c17, c19, c22, c23, c26]
    · refine (read_whole (s := S8x512) (e := .f32) arg24.view rd2 _ _ _ _).trans ?_
      sl_unfold_run_names
      simp only [readCov_part (s := S2048x512) (e := .f32) arg9.view rd2, readCov_part (s := S256x512) (e := .f32) arg13.view rd2, e3, e6, e7, kk0, kk1, c15, c16, c17, c19, c22, c23, c26]
      rfl
    · refine (read_whole (s := S1x512) (e := .f32) arg16.view rd2 _ _ _ _).trans ?_
      sl_unfold_run_names
      simp only [readCov_part (s := S2048x512) (e := .f32) arg9.view rd2, readCov_part (s := S256x512) (e := .f32) arg13.view rd2, e3, e6, e7, kk0, kk1, c15, c16, c17, c19, c22, c23, c26]
    · refine (read_whole (s := S128x512) (e := .f32) arg15.view rd2 _ _ _ _).trans ?_
      have p14 : body.sl.v118 c arg3 arg6 arg13 arg14 arg16 arg19 f3 f6 = cweights (k0_pay189 k0_pay180 (k0_pay185 KC Q)) (k0_pay184 KC Q) := by
        refine Eq.trans ?_ (e14 (k0_pay189 k0_pay180 (k0_pay185 KC Q)) (k0_pay184 KC Q) inb_S256x512_S256x512_0_0)
        sl_unfold_run_names
        simp only [readCov_part (s := S2048x512) (e := .f32) arg9.view rd2, readCov_part (s := S256x512) (e := .f32) arg13.view rd2, e3, e6, e7, kk0, kk1, c15, c16, c17, c19, c22, c23, c26]
        rfl
      rw [p14]
      sl_unfold_run_names
      simp only [readCov_part (s := S2048x512) (e := .f32) arg9.view rd2, readCov_part (s := S256x512) (e := .f32) arg13.view rd2, e3, e6, e7, kk0, kk1, c15, c16, c17, c19, c22, c23, c26]
    · refine (read_whole (s := S8x512) (e := .f32) arg23.view rd2 _ _ _ _).trans ?_
      sl_unfold_run_names
      simp only [readCov_part (s := S2048x512) (e := .f32) arg9.view rd2, readCov_part (s := S256x512) (e := .f32) arg13.view rd2, e3, e6, e7, kk0, kk1, c15, c16, c17, c19, c22, c23, c26]
      rfl
  unfold held
  iintro %acc ⟨%g3, %g4, %g5, %g9, %g10, %g11, %g12, %g15, %g16, %g17, %g18, %g20, %g21, %g23, %g24, %g25, H3, H4, H5, H9, H10, H11, H12, H15, H16, H17, H18, H20, H21, H23, H24, H25, %hg⟩
  obtain ⟨g3h, g4h, g5h, g10h, g18h, g11h, g20h, g24h, g16h, g15h, g23h⟩ := hg
  obtain ⟨st, hst⟩ : ∃ st, St.at Q K V KC VC 3 = st := ⟨_, rfl⟩
  replace g10h : arg10.view.read (Elt F) g10 = st.S1 := g10h.trans (congrArg St.S1 hst)
  replace g18h : arg18.view.read (Elt F) g18 = st.X1 := g18h.trans (congrArg St.X1 hst)
  replace g11h : arg11.view.read (Elt F) g11 = st.P0 := g11h.trans (congrArg St.P0 hst)
  replace g20h : arg20.view.read (Elt F) g20 = st.A0 := g20h.trans (congrArg St.A0 hst)
  replace g24h : arg24.view.read (Elt F) g24 = st.D0 := g24h.trans (congrArg St.D0 hst)
  replace g16h : arg16.view.read (Elt F) g16 = st.M := g16h.trans (congrArg St.M hst)
  replace g15h : arg15.view.read (Elt F) g15 = st.AC := g15h.trans (congrArg St.AC hst)
  replace g23h : arg23.view.read (Elt F) g23 = st.L := g23h.trans (congrArg St.L hst)
  sl_exec
  sl_step
  unfold allDone
  iexists _, _, _, _, _, _, _, _, _, _, _, _, _, _, _, _, _, _, _, _, _, _, _, _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  ipureintro
  have eg10 (inb) := (readAt_whole (s := S2048x512) (e := .f32) arg10.view rd2 inb g10).trans g10h
  have eg18 (inb) := (readAt_whole (s := S1x512) (e := .f32) arg18.view rd2 inb g18).trans g18h
  have eg11 (inb) := (readAt_whole (s := S2048x512) (e := .bf16) arg11.view rd2 inb g11).trans g11h
  have eg20 (inb) := (readAt_whole (s := S1x512) (e := .f32) arg20.view rd2 inb g20).trans g20h
  have eg24 (inb) := (readAt_whole (s := S8x512) (e := .f32) arg24.view rd2 inb g24).trans g24h
  have eg16 (inb) := (readAt_whole (s := S1x512) (e := .f32) arg16.view rd2 inb g16).trans g16h
  have eg15 (inb) := (readAt_whole (s := S128x512) (e := .f32) arg15.view rd2 inb g15).trans g15h
  have eg23 (inb) := (readAt_whole (s := S8x512) (e := .f32) arg23.view rd2 inb g23).trans g23h
  have s10_0 (inb) : arg10.view.readAt (Elt F) (Rect.unit (s := S2048x512) ![0, 0] S64x512.size inb).toLoadRect g10 = View.ld st.S1 (Rect.unit (s := S2048x512) ![0, 0] S64x512.size inb) := by rw [← g10h]; rfl
  have s10_64 (inb) : arg10.view.readAt (Elt F) (Rect.unit (s := S2048x512) ![64, 0] S64x512.size inb).toLoadRect g10 = View.ld st.S1 (Rect.unit (s := S2048x512) ![64, 0] S64x512.size inb) := by rw [← g10h]; rfl
  have s10_128 (inb) : arg10.view.readAt (Elt F) (Rect.unit (s := S2048x512) ![128, 0] S64x512.size inb).toLoadRect g10 = View.ld st.S1 (Rect.unit (s := S2048x512) ![128, 0] S64x512.size inb) := by rw [← g10h]; rfl
  have s10_192 (inb) : arg10.view.readAt (Elt F) (Rect.unit (s := S2048x512) ![192, 0] S64x512.size inb).toLoadRect g10 = View.ld st.S1 (Rect.unit (s := S2048x512) ![192, 0] S64x512.size inb) := by rw [← g10h]; rfl
  have s10_256 (inb) : arg10.view.readAt (Elt F) (Rect.unit (s := S2048x512) ![256, 0] S64x512.size inb).toLoadRect g10 = View.ld st.S1 (Rect.unit (s := S2048x512) ![256, 0] S64x512.size inb) := by rw [← g10h]; rfl
  have s10_320 (inb) : arg10.view.readAt (Elt F) (Rect.unit (s := S2048x512) ![320, 0] S64x512.size inb).toLoadRect g10 = View.ld st.S1 (Rect.unit (s := S2048x512) ![320, 0] S64x512.size inb) := by rw [← g10h]; rfl
  have s10_384 (inb) : arg10.view.readAt (Elt F) (Rect.unit (s := S2048x512) ![384, 0] S64x512.size inb).toLoadRect g10 = View.ld st.S1 (Rect.unit (s := S2048x512) ![384, 0] S64x512.size inb) := by rw [← g10h]; rfl
  have s10_448 (inb) : arg10.view.readAt (Elt F) (Rect.unit (s := S2048x512) ![448, 0] S64x512.size inb).toLoadRect g10 = View.ld st.S1 (Rect.unit (s := S2048x512) ![448, 0] S64x512.size inb) := by rw [← g10h]; rfl
  have s10_512 (inb) : arg10.view.readAt (Elt F) (Rect.unit (s := S2048x512) ![512, 0] S64x512.size inb).toLoadRect g10 = View.ld st.S1 (Rect.unit (s := S2048x512) ![512, 0] S64x512.size inb) := by rw [← g10h]; rfl
  have s10_576 (inb) : arg10.view.readAt (Elt F) (Rect.unit (s := S2048x512) ![576, 0] S64x512.size inb).toLoadRect g10 = View.ld st.S1 (Rect.unit (s := S2048x512) ![576, 0] S64x512.size inb) := by rw [← g10h]; rfl
  have s10_640 (inb) : arg10.view.readAt (Elt F) (Rect.unit (s := S2048x512) ![640, 0] S64x512.size inb).toLoadRect g10 = View.ld st.S1 (Rect.unit (s := S2048x512) ![640, 0] S64x512.size inb) := by rw [← g10h]; rfl
  have s10_704 (inb) : arg10.view.readAt (Elt F) (Rect.unit (s := S2048x512) ![704, 0] S64x512.size inb).toLoadRect g10 = View.ld st.S1 (Rect.unit (s := S2048x512) ![704, 0] S64x512.size inb) := by rw [← g10h]; rfl
  have s10_768 (inb) : arg10.view.readAt (Elt F) (Rect.unit (s := S2048x512) ![768, 0] S64x512.size inb).toLoadRect g10 = View.ld st.S1 (Rect.unit (s := S2048x512) ![768, 0] S64x512.size inb) := by rw [← g10h]; rfl
  have s10_832 (inb) : arg10.view.readAt (Elt F) (Rect.unit (s := S2048x512) ![832, 0] S64x512.size inb).toLoadRect g10 = View.ld st.S1 (Rect.unit (s := S2048x512) ![832, 0] S64x512.size inb) := by rw [← g10h]; rfl
  have s10_896 (inb) : arg10.view.readAt (Elt F) (Rect.unit (s := S2048x512) ![896, 0] S64x512.size inb).toLoadRect g10 = View.ld st.S1 (Rect.unit (s := S2048x512) ![896, 0] S64x512.size inb) := by rw [← g10h]; rfl
  have s10_960 (inb) : arg10.view.readAt (Elt F) (Rect.unit (s := S2048x512) ![960, 0] S64x512.size inb).toLoadRect g10 = View.ld st.S1 (Rect.unit (s := S2048x512) ![960, 0] S64x512.size inb) := by rw [← g10h]; rfl
  have s10_1024 (inb) : arg10.view.readAt (Elt F) (Rect.unit (s := S2048x512) ![1024, 0] S64x512.size inb).toLoadRect g10 = View.ld st.S1 (Rect.unit (s := S2048x512) ![1024, 0] S64x512.size inb) := by rw [← g10h]; rfl
  have s10_1088 (inb) : arg10.view.readAt (Elt F) (Rect.unit (s := S2048x512) ![1088, 0] S64x512.size inb).toLoadRect g10 = View.ld st.S1 (Rect.unit (s := S2048x512) ![1088, 0] S64x512.size inb) := by rw [← g10h]; rfl
  have s10_1152 (inb) : arg10.view.readAt (Elt F) (Rect.unit (s := S2048x512) ![1152, 0] S64x512.size inb).toLoadRect g10 = View.ld st.S1 (Rect.unit (s := S2048x512) ![1152, 0] S64x512.size inb) := by rw [← g10h]; rfl
  have s10_1216 (inb) : arg10.view.readAt (Elt F) (Rect.unit (s := S2048x512) ![1216, 0] S64x512.size inb).toLoadRect g10 = View.ld st.S1 (Rect.unit (s := S2048x512) ![1216, 0] S64x512.size inb) := by rw [← g10h]; rfl
  have s10_1280 (inb) : arg10.view.readAt (Elt F) (Rect.unit (s := S2048x512) ![1280, 0] S64x512.size inb).toLoadRect g10 = View.ld st.S1 (Rect.unit (s := S2048x512) ![1280, 0] S64x512.size inb) := by rw [← g10h]; rfl
  have s10_1344 (inb) : arg10.view.readAt (Elt F) (Rect.unit (s := S2048x512) ![1344, 0] S64x512.size inb).toLoadRect g10 = View.ld st.S1 (Rect.unit (s := S2048x512) ![1344, 0] S64x512.size inb) := by rw [← g10h]; rfl
  have s10_1408 (inb) : arg10.view.readAt (Elt F) (Rect.unit (s := S2048x512) ![1408, 0] S64x512.size inb).toLoadRect g10 = View.ld st.S1 (Rect.unit (s := S2048x512) ![1408, 0] S64x512.size inb) := by rw [← g10h]; rfl
  have s10_1472 (inb) : arg10.view.readAt (Elt F) (Rect.unit (s := S2048x512) ![1472, 0] S64x512.size inb).toLoadRect g10 = View.ld st.S1 (Rect.unit (s := S2048x512) ![1472, 0] S64x512.size inb) := by rw [← g10h]; rfl
  have s10_1536 (inb) : arg10.view.readAt (Elt F) (Rect.unit (s := S2048x512) ![1536, 0] S64x512.size inb).toLoadRect g10 = View.ld st.S1 (Rect.unit (s := S2048x512) ![1536, 0] S64x512.size inb) := by rw [← g10h]; rfl
  have s10_1600 (inb) : arg10.view.readAt (Elt F) (Rect.unit (s := S2048x512) ![1600, 0] S64x512.size inb).toLoadRect g10 = View.ld st.S1 (Rect.unit (s := S2048x512) ![1600, 0] S64x512.size inb) := by rw [← g10h]; rfl
  have s10_1664 (inb) : arg10.view.readAt (Elt F) (Rect.unit (s := S2048x512) ![1664, 0] S64x512.size inb).toLoadRect g10 = View.ld st.S1 (Rect.unit (s := S2048x512) ![1664, 0] S64x512.size inb) := by rw [← g10h]; rfl
  have s10_1728 (inb) : arg10.view.readAt (Elt F) (Rect.unit (s := S2048x512) ![1728, 0] S64x512.size inb).toLoadRect g10 = View.ld st.S1 (Rect.unit (s := S2048x512) ![1728, 0] S64x512.size inb) := by rw [← g10h]; rfl
  have s10_1792 (inb) : arg10.view.readAt (Elt F) (Rect.unit (s := S2048x512) ![1792, 0] S64x512.size inb).toLoadRect g10 = View.ld st.S1 (Rect.unit (s := S2048x512) ![1792, 0] S64x512.size inb) := by rw [← g10h]; rfl
  have s10_1856 (inb) : arg10.view.readAt (Elt F) (Rect.unit (s := S2048x512) ![1856, 0] S64x512.size inb).toLoadRect g10 = View.ld st.S1 (Rect.unit (s := S2048x512) ![1856, 0] S64x512.size inb) := by rw [← g10h]; rfl
  have s10_1920 (inb) : arg10.view.readAt (Elt F) (Rect.unit (s := S2048x512) ![1920, 0] S64x512.size inb).toLoadRect g10 = View.ld st.S1 (Rect.unit (s := S2048x512) ![1920, 0] S64x512.size inb) := by rw [← g10h]; rfl
  have s10_1984 (inb) : arg10.view.readAt (Elt F) (Rect.unit (s := S2048x512) ![1984, 0] S64x512.size inb).toLoadRect g10 = View.ld st.S1 (Rect.unit (s := S2048x512) ![1984, 0] S64x512.size inb) := by rw [← g10h]; rfl
  have vb24 (inb) := readAt_vblk arg5.view g5 g5h 24 (off := ![0, 0, 24, 0, 0]) rfl inb
  have vb25 (inb) := readAt_vblk arg5.view g5 g5h 25 (off := ![0, 0, 25, 0, 0]) rfl inb
  have vb26 (inb) := readAt_vblk arg5.view g5 g5h 26 (off := ![0, 0, 26, 0, 0]) rfl inb
  have vb27 (inb) := readAt_vblk arg5.view g5 g5h 27 (off := ![0, 0, 27, 0, 0]) rfl inb
  have vb28 (inb) := readAt_vblk arg5.view g5 g5h 28 (off := ![0, 0, 28, 0, 0]) rfl inb
  have vb29 (inb) := readAt_vblk arg5.view g5 g5h 29 (off := ![0, 0, 29, 0, 0]) rfl inb
  have vb30 (inb) := readAt_vblk arg5.view g5 g5h 30 (off := ![0, 0, 30, 0, 0]) rfl inb
  have vb31 (inb) := readAt_vblk arg5.view g5 g5h 31 (off := ![0, 0, 31, 0, 0]) rfl inb
  have c15 (inb w L) := View.readCov_cons_toLoadRect (Val := Elt F) arg15.view (Rect.unit (s := S128x512) ![0, 0] S128x512.size inb) w L
  have c21 (inb w L) := View.readCov_cons_toLoadRect (Val := Elt F) arg21.view (Rect.unit (s := S1x512) ![0, 0] S1x512.size inb) w L
  have c23 (inb w L) := View.readCov_cons_toLoadRect (Val := Elt F) arg23.view (Rect.unit (s := S8x512) ![0, 0] S8x512.size inb) w L
  have c25 (inb w L) := View.readCov_cons_toLoadRect (Val := Elt F) arg25.view (Rect.unit (s := S8x512) ![0, 0] S8x512.size inb) w L
  have e12 (m S inb) := readCov_strips (F := F) arg12.view m S inb
  refine ⟨g3h, g4h, g5h, h6, h7, (read_whole (s := S1x1x128x512) (e := .bf16) arg8.view rd4 _ _ _ _).trans ?_⟩
  have p12 : body.sl.v905 c arg10 arg12 arg16 arg18 g10 g16 g18 = weights (k0_pay10 st.M st.X1) st.S1 := by
    refine Eq.trans ?_ (e12 (k0_pay10 st.M st.X1) st.S1 inb_S2048x512_S2048x512_0_0)
    sl_unfold_run_names
    simp only [eg10, eg18, eg11, eg20, eg24, eg16, eg15, eg23, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984, vb24, vb25, vb26, vb27, vb28, vb29, vb30, vb31, c15, c21, c23, c25]
    rfl
  have pac : body.sl.v920 c arg5 arg10 arg11 arg12 arg15 arg16 arg18 arg20 arg21 g5 g10 g11 g15 g16 g18 g20 = st.lastAC V := by
    refine Eq.trans (c15 inb_S128x512_S128x512_0_0 (k0_pay379 (body.sl.r_47 c arg5 g5) (body.sl.v901 c arg16 arg18 arg21 g16 g18) (body.sl.v902 c arg5 arg11 arg15 arg20 g5 g11 g15 g20) (body.sl.v905 c arg10 arg12 arg16 arg18 g10 g16 g18)) (body.sl.H15_1_1 c arg5 arg11 arg15 arg20 g5 g11 g15 g20)) ?_
    rw [p12]
    sl_unfold_run_names
    simp only [eg10, eg18, eg11, eg20, eg24, eg16, eg15, eg23, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984, vb24, vb25, vb26, vb27, vb28, vb29, vb30, vb31, c15, c21, c23, c25]
    rfl
  have pl : body.sl.v921 c arg10 arg16 arg18 arg20 arg21 arg23 arg24 arg25 g10 g16 g18 g20 g23 g24 = st.lastL := by
    sl_unfold_run_names
    simp only [eg10, eg18, eg11, eg20, eg24, eg16, eg15, eg23, s10_0, s10_64, s10_128, s10_192, s10_256, s10_320, s10_384, s10_448, s10_512, s10_576, s10_640, s10_704, s10_768, s10_832, s10_896, s10_960, s10_1024, s10_1088, s10_1152, s10_1216, s10_1280, s10_1344, s10_1408, s10_1472, s10_1536, s10_1600, s10_1664, s10_1728, s10_1792, s10_1856, s10_1920, s10_1984, vb24, vb25, vb26, vb27, vb28, vb29, vb30, vb31, c15, c21, c23, c25]
    rfl
  rw [pac, pl]
  unfold OUT
  rw [hst]

end Cert.Proof.KernelIdeal
-- ==== Proof.KI.Run.lean ====
module

public import proofs.«01_k».proof.Defs
public import Idealize.ShloMosaic.Lib.Pipeline.Value
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

public import proofs.«01_k».proof.Proof.KI.Body

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! # The whole grid -/

/-- The proof data: each array as launched; after a point's body each input's buffer its block, the output's the block
the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT (iblk m c 0 t) (iblk m c 1 t) (iblk m c 2 t) (iblk m c 3 t) (iblk m c 4 t)
  Φ _ := Pipeline.ΦA spec0 c
  q _ := fullShare
  owed _ := 0

/-- The body of a grid point, as the launch calls it. -/
theorem defs₀_row (t : Fin cfg0.N) : defs₀ (F := F) .tc cfg0.body (cfg0.bodyArgs t (cfg0.slots t)) = bodyAt0 t := by
  unfold defs₀; rw [Defs.onTc_tc]

set_option maxHeartbeats 2000000 in
/-- One point's body on what the pipeline hands it. -/
theorem sound_body (c : Dev nD) (t : Fin cfg0.N) (R : sProp 𝕄) :
    iprop(Pipeline.ΦA spec0 c ∗ R ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)))
      ⊢ wp frame (wpE (defs₀ (F := F)) 𝒱₀ (c : Thread nD τ) none) Set.univ (bodyAt0 t) (fun _ =>
        iprop(Pipeline.ΦA spec0 c ∗ R ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t))) := by
  unfold Pipeline.ΦA owns
  rw [scopedRest0_eq]
  iintro ⟨⟨⟨⟨%g0, G0⟩, ⟨%g1, G1⟩, ⟨%g2, G2⟩, ⟨%g3, G3⟩, ⟨%g4, G4⟩, ⟨%g5, G5⟩, ⟨%g6, G6⟩, ⟨%g7, G7⟩, ⟨%g8, G8⟩, ⟨%g9, G9⟩, ⟨%g10, G10⟩, ⟨%g11, G11⟩, ⟨%g12, G12⟩, ⟨%g13, G13⟩, ⟨%g14, G14⟩, ⟨%g15, G15⟩, ⟨%g16, G16⟩, ⟨%g17, G17⟩⟩, Hr⟩, HR, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [before0_0_of m (dats m 0 c) rfl (fun _ => rfl)] at h0
  rw [before0_1_of m (dats m 0 c) rfl (fun _ => rfl)] at h1
  rw [before0_2_of m (dats m 0 c) rfl (fun _ => rfl)] at h2
  rw [before0_3_of m (dats m 0 c) rfl (fun _ => rfl)] at h3
  rw [before0_4_of m (dats m 0 c) rfl (fun _ => rfl)] at h4
  iapply (wp_wand _ _ _ (Q := fun _ => allDone c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) (Memref.whole cc0_scratch11) (Memref.whole cc0_scratch12) (Memref.whole cc0_scratch13) (Memref.whole cc0_scratch14) (Memref.whole cc0_scratch15) (Memref.whole cc0_scratch16) (Memref.whole cc0_scratch17) (iblk m c 0 t) (iblk m c 1 t) (iblk m c 2 t) (iblk m c 3 t) (iblk m c 4 t))) $$ [G0 G1 G2 G3 G4 G5 G6 G7 G8 G9 G10 G11 G12 G13 G14 G15 G16 G17 H0 H1 H2 H3 H4 H5]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (iblk m c 0 t) (iblk m c 1 t) (iblk m c 2 t) (iblk m c 3 t) (iblk m c 4 t))
    unfold allHeld
    iexists f0, f1, f2, f3, f4, f5, g0, g1, g2, g3, g4, g5, g6, g7, g8, g9, g10, g11, g12, g13, g14, g15, g16, g17
    isplitl [H0]; · iexact H0
    isplitl [H1]; · iexact H1
    isplitl [H2]; · iexact H2
    isplitl [H3]; · iexact H3
    isplitl [H4]; · iexact H4
    isplitl [H5]; · iexact H5
    simp only [Memref.view_whole, View.set_whole]
    isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    ipureintro
    exact ⟨h0, h1, h2, h3, h4⟩
  iintro %a HD
  unfold allDone
  simp only [Memref.view_whole, View.set_whole]
  icases HD with ⟨%e0, %e1, %e2, %e3, %e4, %e5, %u0, %u1, %u2, %u3, %u4, %u5, %u6, %u7, %u8, %u9, %u10, %u11, %u12, %u13, %u14, %u15, %u16, %u17, H0, H1, H2, H3, H4, H5, G0, G1, G2, G3, G4, G5, G6, G7, G8, G9, G10, G11, G12, G13, G14, G15, G16, G17, %hp⟩
  obtain ⟨p0, p1, p2, p3, p4, p5⟩ := hp
  isplitl [Hr G0 G1 G2 G3 G4 G5 G6 G7 G8 G9 G10 G11 G12 G13 G14 G15 G16 G17]
  · isplitl [G0 G1 G2 G3 G4 G5 G6 G7 G8 G9 G10 G11 G12 G13 G14 G15 G16 G17]
    · isplitl [G0]; · iexists u0; iexact G0
      isplitl [G1]; · iexists u1; iexact G1
      isplitl [G2]; · iexists u2; iexact G2
      isplitl [G3]; · iexists u3; iexact G3
      isplitl [G4]; · iexists u4; iexact G4
      isplitl [G5]; · iexists u5; iexact G5
      isplitl [G6]; · iexists u6; iexact G6
      isplitl [G7]; · iexists u7; iexact G7
      isplitl [G8]; · iexists u8; iexact G8
      isplitl [G9]; · iexists u9; iexact G9
      isplitl [G10]; · iexists u10; iexact G10
      isplitl [G11]; · iexists u11; iexact G11
      isplitl [G12]; · iexists u12; iexact G12
      isplitl [G13]; · iexists u13; iexact G13
      isplitl [G14]; · iexists u14; iexact G14
      isplitl [G15]; · iexists u15; iexact G15
      isplitl [G16]; · iexists u16; iexact G16
      iexists u17; iexact G17
    · iexact Hr
  isplitl [HR]; · iexact HR
  isplitl [H0]
  · iexists e0; isplitr; · ipureintro; exact p0
    iexact H0
  isplitl [H1]
  · iexists e1; isplitr; · ipureintro; exact p1
    iexact H1
  isplitl [H2]
  · iexists e2; isplitr; · ipureintro; exact p2
    iexact H2
  isplitl [H3]
  · iexists e3; isplitr; · ipureintro; exact p3
    iexact H3
  isplitl [H4]
  · iexists e4; isplitr; · ipureintro; exact p4
    iexact H4
  iexists e5; isplitr; · ipureintro; exact p5
  iexact H5

/-- The body takes the staged blocks of a grid point to what the launch expects of it. -/
theorem body_obligation (c : Dev nD) : BodyObligation (dats m 0 c) (defs₀ (F := F)) 𝒱₀ () Set.univ := fun t => by
  rw [bigSep_W0, bigSep_W0, defs₀_row]
  exact triple_restated (sound_body m c t ((dats m 0 c).owesAt () t.castSucc)) rfl .rfl fun _ => .rfl

/-- The run: every window's array at what the points left, every other buffer as launched, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) 0 launch0 defs₀ 𝒱₀ m ρ main
    (hbody := fun c => (body_obligation m c).loose) (hshare := fun _ w => by unfold Dat.share; exact ite_self _) (howed := fun _ _ => rfl)
    (V := V m) (hmain := hmain m 𝒱₀) (hA := fun _ _ => rfl) (hΦ := fun _ _ => rfl)
    (Q' := fun r => Pipeline.FramePost cfgs (dats m) 0 (V m) r ∧ r.2.sem = fun _ => 0) (hQ' := fun _ h => h)

/-- The arguments are unchanged. -/
theorem args_of {r : PUnit × MemSt nD τ sig (Elt F)} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dats m 0 c).arrAt_in 0 rfl _).trans (V_main_arg0 m c)), ((h c).1 1).trans (((dats m 0 c).arrAt_in 1 rfl _).trans (V_main_arg1 m c)), ((h c).1 2).trans (((dats m 0 c).arrAt_in 2 rfl _).trans (V_main_arg2 m c)), ((h c).1 3).trans (((dats m 0 c).arrAt_in 3 rfl _).trans (V_main_arg3 m c)), ((h c).1 4).trans (((dats m 0 c).arrAt_in 4 rfl _).trans (V_main_arg4 m c))⟩

/-- The arguments are unchanged and every semaphore ends at zero. -/
theorem quiescent : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) :=
  (θ_run defs _ _).mono (fun _ h => ⟨fun c => args_of m h.1 c, h.2⟩) (run_main m ρ)

end Cert.Proof.KernelIdeal
-- ==== Proof.V.Pay.lean ====
module

public import proofs.«01_k».proof.Proof.KI.Run
public import proofs.«01_k».proof.Proof.K.Run
public import Idealize.ShloMosaic.Lib.Pointwise

@[expose] public section

set_option maxRecDepth 16384

noncomputable section

namespace Cert.Proof.Value

open Cert.KernelIdeal Cert.KernelIdeal.Gen Cert.Proof.KernelIdeal Idealize.ShloMosaic Idealize.SL.Sem

/-- The word of minus infinity is minus infinity. -/
theorem neg_inf : Ideal.ofBits FTy.f32 4286578688#32 = ⊥ := by simp [Ideal.ofBits, Ideal.ieee]

/-- A score of a chunk is the product of key and query. -/
theorem scores_apply (K : Vec Ideal S1x1x2048x256 .bf16) (Q : Vec Ideal S1x1x256x512 .bf16) (r : Fin 2048) (q : Fin 512) :
    k0_pay4 K Q (ix2 r q) = ∑ d : Fin 256, K (ix4 0 0 r d) * Q (ix4 0 0 d q) := by
  pointwise [k0_pay4, k0_pay3]

/-- A score of the context block. -/
theorem cscores_apply (K : Vec Ideal S1x1x256x256 .bf16) (Q : Vec Ideal S1x1x256x512 .bf16) (r : Fin 256) (q : Fin 512) :
    k0_pay184 K Q (ix2 r q) = ∑ d : Fin 256, K (ix4 0 0 r d) * Q (ix4 0 0 d q) := by
  pointwise [k0_pay184, k0_pay183]

/-- The greatest score of a chunk for a query. -/
theorem max_apply (K : Vec Ideal S1x1x2048x256 .bf16) (Q : Vec Ideal S1x1x256x512 .bf16) (q : Fin 512) :
    k0_pay5 K Q (ix2 0 q) = Finset.univ.fold max ⊥ (fun r : Fin 2048 => ∑ d : Fin 256, K (ix4 0 0 r d) * Q (ix4 0 0 d q)) := by
  pointwise [k0_pay5, k0_pay3]
  rw [neg_inf]

/-- A key of a chunk, in the block. -/
theorem kchunk_apply (K : Vec Ideal S1x1x16384x256 .bf16) (j : ℕ) (r : Fin 2048) (d : Fin 256) :
    kchunk K j (ix4 0 0 r d) = K (ix4 0 0 ⟨2048 * (j % 8) + r, by omega⟩ d) := by
  pointwise [kchunk]

/-- An entry of a piece of the values, in the block. -/
theorem vblk_apply (V : Vec Ideal S1x1x32x128x512 .bf16) (j : ℕ) (a : Fin 128) (r : Fin 512) :
    vblk V j (ix5 0 0 0 a r) = V (ix5 0 0 ⟨j % 32, by omega⟩ a r) := by
  pointwise [vblk]

/-- An entry of a chunk of the values, in the block. -/
theorem vchunk_apply (V : Vec Ideal S1x1x32x128x512 .bf16) (j : ℕ) (hj : j < 8) (a : Fin 128) (r : Fin 2048) :
    vchunk V j (ix2 a r) = V (ix5 0 0 ⟨(2048 * j + r) / 512, by omega⟩ a ⟨(2048 * j + r) % 512, by omega⟩) := by
  pointwise [vchunk, k0_pay97, vblk]
  split_ifs <;> congr 2 <;> first | (apply Fin.ext; simp only; omega) | (congr 1 ; apply Fin.ext; simp only; omega)

/-- The accumulator times the rescaling factor. -/
theorem rescale_apply (α : FVec Ideal S1x512 .f32) (A : FVec Ideal S128x512 .f32) (a : Fin 128) (q : Fin 512) :
    k0_pay98 α A (ix2 a q) = α (ix2 0 q) * A (ix2 a q) := by
  pointwise [k0_pay98]

/-- The accumulator with a chunk's weighted values added. -/
theorem accum_apply (v : FVec Ideal S128x2048 .bf16) (A : FVec Ideal S128x512 .f32) (p : Vec Ideal S2048x512 .bf16) (a : Fin 128) (q : Fin 512) :
    k0_pay99 v A p (ix2 a q) = A (ix2 a q) + ∑ r : Fin 2048, v (ix2 a r) * p (ix2 r q) := by
  pointwise [k0_pay99]

/-- The accumulator with the context's weighted values added. -/
theorem caccum_apply (v : Vec Ideal S1x1x1x128x256 .bf16) (α : Vec Ideal S1x512 .f32) (A : Vec Ideal S128x512 .f32) (p : Vec Ideal S256x512 .bf16) (a : Fin 128) (q : Fin 512) :
    k0_pay204 v α A p (ix2 a q) = α (ix2 0 q) * A (ix2 a q) + ∑ r : Fin 256, v (ix5 0 0 0 a r) * p (ix2 r q) := by
  pointwise [k0_pay204]

/-- The weight sums, rescaled, with a chunk's added. -/
theorem sums_apply (α : FVec Ideal S1x512 .f32) (L D : FVec Ideal S8x512 .f32) (ρ : Fin 8) (q : Fin 512) :
    k0_pay9 α L D (ix2 ρ q) = α (ix2 0 q) * L (ix2 ρ q) + D (ix2 ρ q) := by
  pointwise [k0_pay9]

/-- A weight is a power of two of a score less the maximum. -/
theorem weights_apply (m : FVec Ideal S1x512 .f32) (S : FVec Ideal S2048x512 .f32) (r : Fin 2048) (q : Fin 512) :
    weights m S (ix2 r q) = Ideal.exp2 (S (ix2 r q) - m (ix2 0 q)) := by
  pointwise [weights]
  rfl

/-- The weights of a strip summed over the rows of one residue. -/
theorem strip_apply (m : FVec Ideal S1x512 .f32) (S : FVec Ideal S64x512 .f32) (ρ : Fin 8) (q : Fin 512) :
    k0_pay45 m S (ix2 ρ q) = ∑ i : Fin 8, Ideal.exp2 (S (ix2 ⟨8 * i + ρ, by omega⟩ q) - m (ix2 0 q)) := by
  pointwise [k0_pay45, k0_pay44, k0_pay43]
  refine Finset.sum_congr rfl fun i _ => ?_
  have h : (⟨i.val * 8 + ρ.val, by omega⟩ : Fin 64) = ⟨8 * i.val + ρ.val, by omega⟩ := Fin.ext (by simp only; omega)
  rw [h]
  rfl

/-- The result is the accumulator over the sum of the eight weight sums. -/
theorem out_apply (A : FVec Ideal S128x512 .f32) (L : FVec Ideal S8x512 .f32) (a : Fin 128) (q : Fin 512) :
    (k0_pay2 (F := Ideal) A L (ix4 0 0 a q) : EReal) = Ideal.div (A (ix2 a q)) (∑ ρ : Fin 8, L (ix2 ρ q)) := by
  pointwise [k0_pay2]

/-- A weight of the context block. -/
theorem cweights_apply (m : FVec Ideal S1x512 .f32) (S : FVec Ideal S256x512 .f32) (r : Fin 256) (q : Fin 512) :
    cweights m S (ix2 r q) = Ideal.exp2 (S (ix2 r q) - m (ix2 0 q)) := by
  pointwise [cweights]
  rfl

/-- The greatest score of the context block for a query. -/
theorem cmax_apply (K : Vec Ideal S1x1x256x256 .bf16) (Q : Vec Ideal S1x1x256x512 .bf16) (q : Fin 512) :
    k0_pay185 K Q (ix2 0 q) = Finset.univ.fold max ⊥ (fun r : Fin 256 => ∑ d : Fin 256, K (ix4 0 0 r d) * Q (ix4 0 0 d q)) := by
  pointwise [k0_pay185, k0_pay183]
  rw [neg_inf]

/-- The new maximum. -/
theorem newmax_apply (m x : FVec Ideal S1x512 .f32) (q : Fin 512) : k0_pay10 m x (ix2 0 q) = max (m (ix2 0 q)) (x (ix2 0 q)) := by
  pointwise [k0_pay10]

/-- The new maximum, as it is stored. -/
theorem newmax_apply' (m x : FVec Ideal S1x512 .f32) (q : Fin 512) : k0_pay11 m x (ix2 0 q) = max (m (ix2 0 q)) (x (ix2 0 q)) := by
  pointwise [k0_pay11, k0_pay10]

/-- The rescaling factor is a power of two of the old maximum less the new one. -/
theorem factor_apply (m x : FVec Ideal S1x512 .f32) (q : Fin 512) :
    (k0_pay12 (F := Ideal) m x (ix2 0 q) : EReal) = Ideal.exp2 (m (ix2 0 q) - max (m (ix2 0 q)) (x (ix2 0 q))) := by
  pointwise [k0_pay12, k0_pay10]
  rfl

/-- The part of a strip in the weight sums. -/
theorem part_apply (m : FVec Ideal S1x512 .f32) (S : FVec Ideal S2048x512 .f32) (o : ℕ) (ho : o + 64 ≤ 2048) (inb) (ρ : Fin 8) (q : Fin 512) :
    k0_pay45 m (View.ld S (Rect.unit (s := S2048x512) ![o, 0] S64x512.size inb)) (ix2 ρ q) =
      ∑ i : Fin 8, Ideal.exp2 (S (ix2 ⟨o + (8 * i + ρ), by omega⟩ q) - m (ix2 0 q)) := by
  rw [strip_apply]
  pointwise

/-- The same for the context block. -/
theorem cpart_apply (m : FVec Ideal S1x512 .f32) (S : FVec Ideal S256x512 .f32) (o : ℕ) (ho : o + 64 ≤ 256) (inb) (ρ : Fin 8) (q : Fin 512) :
    k0_pay45 m (View.ld S (Rect.unit (s := S256x512) ![o, 0] S64x512.size inb)) (ix2 ρ q) =
      ∑ i : Fin 8, Ideal.exp2 (S (ix2 ⟨o + (8 * i + ρ), by omega⟩ q) - m (ix2 0 q)) := by
  rw [strip_apply]
  pointwise

/-- The weight sums of a chunk, strip by strip. -/
theorem wsum_unfold (m : FVec Ideal S1x512 .f32) (S : FVec Ideal S2048x512 .f32) (ρ : Fin 8) (q : Fin 512) (f : ℕ → EReal)
    (h : ∀ o inb, o % 64 = 0 → k0_pay45 m (View.ld S (Rect.unit (s := S2048x512) ![o, 0] S64x512.size inb)) (ix2 ρ q) = f (o / 64)) :
    wsum m S (ix2 ρ q) = ∑ t ∈ Finset.range 32, f t := by
  pointwise [wsum]
  simp only [h, Nat.reduceMod, Nat.reduceDiv, Finset.sum_range_succ, Finset.sum_range_zero, zero_add, Nat.zero_mod, Nat.zero_div]

/-- The weight sums of the context block, strip by strip. -/
theorem cwsum_unfold (m : FVec Ideal S1x512 .f32) (S : FVec Ideal S256x512 .f32) (ρ : Fin 8) (q : Fin 512) (f : ℕ → EReal)
    (h : ∀ o inb, o % 64 = 0 → k0_pay45 m (View.ld S (Rect.unit (s := S256x512) ![o, 0] S64x512.size inb)) (ix2 ρ q) = f (o / 64)) :
    cwsum m S (ix2 ρ q) = ∑ t ∈ Finset.range 4, f t := by
  pointwise [cwsum]
  simp only [h, Nat.reduceMod, Nat.reduceDiv, Finset.sum_range_succ, Finset.sum_range_zero, zero_add, Nat.zero_mod, Nat.zero_div]

/-- The maxima taken from scores computed before are the maxima. -/
theorem max_again (K : Vec Ideal S1x1x2048x256 .bf16) (Q : Vec Ideal S1x1x256x512 .bf16) : k0_pay96 (k0_pay95 K Q) = k0_pay5 K Q := by
  unfold k0_pay96 k0_pay95 k0_pay5 k0_pay93 k0_pay3
  rfl

/-- The maxima of the first odd chunk are the same function. -/
theorem max_first (K : Vec Ideal S1x1x2048x256 .bf16) (Q : Vec Ideal S1x1x256x512 .bf16) : k0_pay203 K Q = k0_pay5 K Q := by
  unfold k0_pay203 k0_pay5 k0_pay201 k0_pay3
  rfl

/-- A cast of the weight sums to their own shape. -/
theorem id_apply (x : FVec Ideal S8x512 .f32) : k0_pay1 x = x := by
  funext j; idx_vars j; pointwise [k0_pay1]

/-- The maximum starts at minus infinity. -/
theorem minf_apply (q : Fin 512) : (k0_pay180 (F := Ideal) (ix2 0 q) : EReal) = ⊥ := by
  pointwise [k0_pay180]
  exact neg_inf

/-- The accumulator starts at zero. -/
theorem zero_apply (a : Fin 128) (q : Fin 512) : (k0_pay181 (F := Ideal) (ix2 a q) : EReal) = 0 := by
  pointwise [k0_pay181]

/-- The weight sums start at zero. -/
theorem zero_apply' (ρ : Fin 8) (q : Fin 512) : (k0_pay182 (F := Ideal) (ix2 ρ q) : EReal) = 0 := by
  pointwise [k0_pay182]

end Cert.Proof.Value

end
-- ==== Proof.V.Softmax.lean ====
module

public import proofs.«01_k».proof.Proof.V.Pay

@[expose] public section

noncomputable section

namespace Cert.Proof.Value

open Idealize.ShloMosaic

/-! # The weights of a softmax in base 2, and sums of them, over the extended reals -/

/-- The weight of a score relative to a maximum: two to their difference. -/
def w (m s : ℝ) : EReal := ((2 : ℝ) ^ (s - m) : ℝ)

/-- A power of two of a difference of reals is a weight. -/
theorem exp2_sub (m s : ℝ) : Ideal.exp2 ((s : EReal) - (m : EReal)) = w m s := by
  rw [← EReal.coe_sub, Ideal.exp2_coe]; rfl

/-- Two weights multiply by way of the middle maximum. -/
theorem w_mul (m' m s : ℝ) : w m' m * w m s = w m' s := by
  unfold w
  rw [← EReal.coe_mul, ← Real.rpow_add (by norm_num)]
  congr 2; ring

/-- A sum of reals, as extended reals. -/
theorem coe_sum {ι : Type*} (I : Finset ι) (f : ι → ℝ) : ((∑ i ∈ I, f i : ℝ) : EReal) = ∑ i ∈ I, (f i : EReal) := by
  classical
  induction I using Finset.induction_on with
  | empty => simp
  | insert a I ha ih => rw [Finset.sum_insert ha, Finset.sum_insert ha, EReal.coe_add, ih]

/-- A nonnegative real times a sum. -/
theorem coe_mul_sum {ι : Type*} (I : Finset ι) (r : ℝ) (hr : 0 ≤ r) (f : ι → EReal) : (r : EReal) * ∑ i ∈ I, f i = ∑ i ∈ I, (r : EReal) * f i := by
  classical
  induction I using Finset.induction_on with
  | empty => simp
  | insert a I ha ih =>
    rw [Finset.sum_insert ha, Finset.sum_insert ha, ← ih]
    exact EReal.left_distrib_of_nonneg_of_ne_top (by exact_mod_cast hr) (EReal.coe_ne_top r) _ _

/-- Multiplying by the rescaling factor moves a weighted sum from one maximum to another. -/
theorem rescale_sum {ι : Type*} (I : Finset ι) (m' m : ℝ) (v : ι → EReal) (s : ι → ℝ) :
    w m' m * ∑ i ∈ I, v i * w m (s i) = ∑ i ∈ I, v i * w m' (s i) := by
  rw [w, coe_mul_sum I _ (by positivity)]
  refine Finset.sum_congr rfl fun i _ => ?_
  rw [← w_mul m' m (s i), mul_left_comm]
  rfl

/-- The rescaling factor times a sum of weights. -/
theorem rescale_ones {ι : Type*} (I : Finset ι) (m' m : ℝ) (s : ι → ℝ) :
    w m' m * ∑ i ∈ I, w m (s i) = ∑ i ∈ I, w m' (s i) := by
  simpa using rescale_sum I m' m (fun _ => 1) s

/-- The rescaling factor times a sum of two. -/
theorem w_mul_add (m' m : ℝ) (x y : EReal) : w m' m * (x + y) = w m' m * x + w m' m * y :=
  EReal.left_distrib_of_nonneg_of_ne_top (EReal.coe_nonneg.mpr (by positivity)) (EReal.coe_ne_top _) _ _

/-- A sum over the first `a * b` numbers, by blocks of `b`. -/
theorem sum_blocks {M : Type*} [AddCommMonoid M] (a b : ℕ) (f : ℕ → M) :
    ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

/-- The greatest of finitely many reals, counted from minus infinity, is a real. -/
theorem fold_real {n : ℕ} (f : Fin (n + 1) → EReal) (hf : ∀ i, ∃ r : ℝ, f i = r) :
    ∃ r : ℝ, Finset.univ.fold max ⊥ f = r := by
  obtain ⟨i, -, hi⟩ := Finset.exists_mem_eq_sup (Finset.univ : Finset (Fin (n + 1))) Finset.univ_nonempty f
  obtain ⟨r, hr⟩ := hf i
  exact ⟨r, hi.trans hr⟩

/-- A sum of real numbers is one. -/
theorem sum_real {ι : Type*} (I : Finset ι) (f : ι → EReal) (hf : ∀ i, ∃ r : ℝ, f i = r) : ∃ r : ℝ, ∑ i ∈ I, f i = r := by
  choose g hg using hf
  exact ⟨∑ i ∈ I, g i, by rw [coe_sum]; exact Finset.sum_congr rfl fun i _ => hg i⟩

/-- The softmax in base 2 of `n` scores, applied to `n` values. -/
def soft (n : ℕ) (v : ℕ → EReal) (s : ℕ → ℝ) : EReal :=
  ∑ κ ∈ Finset.range n, v κ * (((2 : ℝ) ^ s κ / ∑ j ∈ Finset.range n, (2 : ℝ) ^ s j : ℝ) : EReal)

/-- Whatever the maximum that the weights are taken relative to, the quotient of the two sums is the softmax. -/
theorem soft_of_quotient (n : ℕ) (hn : 0 < n) (m : ℝ) (v : ℕ → EReal) (s : ℕ → ℝ) :
    Ideal.div (∑ κ ∈ Finset.range n, v κ * w m (s κ)) (∑ κ ∈ Finset.range n, w m (s κ)) = soft n v s := by
  have hz : (0 : ℝ) < ∑ j ∈ Finset.range n, (2 : ℝ) ^ (s j - m) :=
    Finset.sum_pos (fun i _ => by positivity) (by simpa using hn.ne')
  have hs : (∑ κ ∈ Finset.range n, w m (s κ)) = ((∑ j ∈ Finset.range n, (2 : ℝ) ^ (s j - m) : ℝ) : EReal) := by
    rw [coe_sum]; rfl
  have hq : ∀ κ, (2 : ℝ) ^ s κ / ∑ j ∈ Finset.range n, (2 : ℝ) ^ s j = (∑ j ∈ Finset.range n, (2 : ℝ) ^ (s j - m))⁻¹ * (2 : ℝ) ^ (s κ - m) := by
    intro κ
    have : ∀ j, (2 : ℝ) ^ (s j - m) = (2 : ℝ) ^ s j / (2 : ℝ) ^ m := fun j => Real.rpow_sub (by norm_num) _ _
    have hp : (0 : ℝ) < ∑ j ∈ Finset.range n, (2 : ℝ) ^ s j := Finset.sum_pos (fun i _ => by positivity) (by simpa using hn.ne')
    simp only [this, ← Finset.sum_div]
    field_simp
  rw [hs, soft]
  unfold Ideal.div
  rw [if_neg (by exact_mod_cast hz.ne'), ← EReal.coe_inv, mul_comm, coe_mul_sum _ _ (by positivity)]
  refine Finset.sum_congr rfl fun κ _ => ?_
  rw [hq, EReal.coe_mul, mul_left_comm]
  rfl

end Cert.Proof.Value

end
-- ==== Proof.V.Loop.lean ====
module

public import proofs.«01_k».proof.Proof.V.Softmax

@[expose] public section

set_option maxRecDepth 16384

noncomputable section

namespace Cert.Proof.Value

open Cert.KernelIdeal Cert.KernelIdeal.Gen Cert.Proof.KernelIdeal Idealize.ShloMosaic Idealize.SL.Sem

/-! # What the loop computes for one query and one row of the values

`σ` gives the scores of the query, `v` the entries of the row: the latent keys come first, the 256 context keys after
them from 16384 on. -/

variable (σ : ℕ → ℝ) (v : ℕ → EReal) (q : Fin 512) (a : Fin 128)

/-- The two accumulators hold the sums over the context and over the first `N` chunks, relative to `m`. -/
structure Acc (N : ℕ) (m : ℝ) (AC : FVec Ideal S128x512 .f32) (L : FVec Ideal S8x512 .f32) : Prop where
  ac : AC (ix2 a q) = ∑ r ∈ Finset.range 256, v (16384 + r) * w m (σ (16384 + r)) + ∑ κ ∈ Finset.range (2048 * N), v κ * w m (σ κ)
  l : ∀ ρ : Fin 8, L (ix2 ρ q) = ∑ j ∈ Finset.range 32, w m (σ (16384 + (8 * j + ρ))) + ∑ j ∈ Finset.range (256 * N), w m (σ (8 * j + ρ))

variable {σ v q a}

/-- A chunk's weight sums over one residue of the row. -/
theorem wsum_value {mv : FVec Ideal S1x512 .f32} {S : FVec Ideal S2048x512 .f32} {m : ℝ} {c : ℕ}
    (hm : mv (ix2 0 q) = (m : EReal)) (hS : ∀ r : Fin 2048, S (ix2 r q) = (σ (2048 * c + r) : EReal)) (ρ : Fin 8) :
    wsum mv S (ix2 ρ q) = ∑ j ∈ Finset.range 256, w m (σ (8 * (256 * c + j) + ρ)) := by
  rw [show 256 = 8 * 32 by rfl, ← sum_blocks 32 8]
  refine wsum_unfold mv S ρ q (fun t => ∑ j ∈ Finset.range 8, w m (σ (8 * (8 * 32 * c + (8 * t + j)) + ρ))) fun o inb h => ?_
  have ho : o + 64 ≤ 2048 := inb 0
  rw [part_apply mv S o ho, Finset.sum_range]
  refine Finset.sum_congr rfl fun i _ => ?_
  rw [hm, hS, exp2_sub]
  congr 2
  simp only
  omega

/-- The context block's weight sums over one residue of the row. -/
theorem cwsum_value {mv : FVec Ideal S1x512 .f32} {S : FVec Ideal S256x512 .f32} {m : ℝ}
    (hm : mv (ix2 0 q) = (m : EReal)) (hS : ∀ r : Fin 256, S (ix2 r q) = (σ (16384 + r) : EReal)) (ρ : Fin 8) :
    cwsum mv S (ix2 ρ q) = ∑ j ∈ Finset.range 32, w m (σ (16384 + (8 * j + ρ))) := by
  rw [show 32 = 8 * 4 by rfl, ← sum_blocks 4 8]
  refine cwsum_unfold mv S ρ q (fun t => ∑ j ∈ Finset.range 8, w m (σ (16384 + (8 * (8 * t + j) + ρ)))) fun o inb h => ?_
  have ho : o + 64 ≤ 256 := inb 0
  rw [cpart_apply mv S o ho, Finset.sum_range]
  refine Finset.sum_congr rfl fun i _ => ?_
  rw [hm, hS, exp2_sub]
  congr 2
  simp only
  omega

/-- Rescaling the accumulators and adding a chunk. -/
theorem Acc.step {N : ℕ} {m m' : ℝ} {V : FVec Ideal S128x2048 .bf16} {AC : FVec Ideal S128x512 .f32} {L D : FVec Ideal S8x512 .f32}
    {α : FVec Ideal S1x512 .f32} {P : FVec Ideal S2048x512 .bf16} (h : Acc σ v q a N m AC L) (hα : α (ix2 0 q) = w m' m)
    (hV : ∀ r : Fin 2048, V (ix2 a r) = v (2048 * N + r)) (hP : ∀ r : Fin 2048, P (ix2 r q) = w m' (σ (2048 * N + r)))
    (hD : ∀ ρ : Fin 8, D (ix2 ρ q) = ∑ j ∈ Finset.range 256, w m' (σ (8 * (256 * N + j) + ρ))) :
    Acc σ v q a (N + 1) m' (k0_pay99 (F := Ideal) V (k0_pay98 (F := Ideal) α AC) P) (k0_pay9 (F := Ideal) α L D) where
  ac := by
    rw [accum_apply, rescale_apply, h.ac, hα, w_mul_add, rescale_sum, rescale_sum, add_assoc, Nat.mul_succ, Finset.sum_range_add,
      Finset.sum_range (n := 2048)]
    simp only [hV, hP]
  l ρ := by
    rw [sums_apply, h.l, hα, hD, w_mul_add, rescale_ones, rescale_ones, add_assoc, Nat.mul_succ, Finset.sum_range_add]

/-- The accumulators after the context block alone. -/
theorem Acc.first {m : ℝ} {VC : Vec Ideal S1x1x1x128x256 .bf16} {D : FVec Ideal S8x512 .f32}
    {α : FVec Ideal S1x512 .f32} {P : FVec Ideal S256x512 .bf16}
    (hV : ∀ r : Fin 256, VC (ix5 0 0 0 a r) = v (16384 + r)) (hP : ∀ r : Fin 256, P (ix2 r q) = w m (σ (16384 + r)))
    (hD : ∀ ρ : Fin 8, D (ix2 ρ q) = ∑ j ∈ Finset.range 32, w m (σ (16384 + (8 * j + ρ)))) :
    Acc σ v q a 0 m (k0_pay204 (F := Ideal) VC α (k0_pay181 (F := Ideal)) P) (k0_pay9 (F := Ideal) α (k0_pay182 (F := Ideal)) D) where
  ac := by
    rw [caccum_apply, zero_apply, mul_zero, zero_add, Finset.sum_range, Nat.mul_zero, Finset.sum_range_zero, add_zero]
    simp only [hV, hP]
  l ρ := by
    rw [sums_apply, zero_apply', hD, mul_zero, zero_add, Nat.mul_zero, Finset.sum_range_zero, add_zero]

/-- What the blocks are to the scores and the row of values. -/
structure Blocks (σ : ℕ → ℝ) (v : ℕ → EReal) (q : Fin 512) (a : Fin 128) (Q : Vec Ideal S1x1x256x512 .bf16) (K : Vec Ideal S1x1x16384x256 .bf16)
    (V : Vec Ideal S1x1x32x128x512 .bf16) (KC : Vec Ideal S1x1x256x256 .bf16) (VC : Vec Ideal S1x1x1x128x256 .bf16) : Prop where
  k : ∀ (κ : ℕ) (h : κ < 16384), ∑ d : Fin 256, K (ix4 0 0 ⟨κ, h⟩ d) * Q (ix4 0 0 d q) = (σ κ : EReal)
  kc : ∀ r : Fin 256, ∑ d : Fin 256, KC (ix4 0 0 r d) * Q (ix4 0 0 d q) = (σ (16384 + r) : EReal)
  val : ∀ (κ : ℕ) (h : κ < 16384), V (ix5 0 0 ⟨κ / 512, by omega⟩ a ⟨κ % 512, by omega⟩) = v κ
  cval : ∀ r : Fin 256, VC (ix5 0 0 0 a r) = v (16384 + r)

/-- The sums over the eight residues, added, are the sums over all numbers. -/
theorem fold_residues (f : ℕ → EReal) (A B c : ℕ) :
    ∑ ρ : Fin 8, (∑ j ∈ Finset.range A, f (c + (8 * j + ρ)) + ∑ j ∈ Finset.range B, f (8 * j + ρ))
      = ∑ κ ∈ Finset.range (8 * A), f (c + κ) + ∑ κ ∈ Finset.range (8 * B), f κ := by
  have h : ∀ (g : ℕ → EReal) (A : ℕ), ∑ ρ : Fin 8, ∑ j ∈ Finset.range A, g (8 * j + ρ) = ∑ κ ∈ Finset.range (8 * A), g κ := fun g A => by
    rw [← sum_blocks, Finset.sum_comm]
    exact Finset.sum_congr rfl fun j _ => (Finset.sum_range fun ρ => g (8 * j + ρ)).symm
  rw [Finset.sum_add_distrib, h f, h fun κ => f (c + κ)]

section
variable {Q : Vec Ideal S1x1x256x512 .bf16} {K : Vec Ideal S1x1x16384x256 .bf16}
    {V : Vec Ideal S1x1x32x128x512 .bf16} {KC : Vec Ideal S1x1x256x256 .bf16} {VC : Vec Ideal S1x1x1x128x256 .bf16}

/-- The products of a key of a chunk with the query sum to its score. -/
theorem Blocks.sum (B : Blocks σ v q a Q K V KC VC) {c : ℕ} (hc : c < 8) (r : Fin 2048) :
    ∑ d : Fin 256, kchunk K c (ix4 0 0 r d) * Q (ix4 0 0 d q) = (σ (2048 * c + r) : EReal) := by
  rw [← B.k (2048 * c + r) (by omega)]
  refine Finset.sum_congr rfl fun d _ => ?_
  rw [kchunk_apply]
  simp only [Nat.mod_eq_of_lt hc]

/-- So the chunk's scores are those of its keys. -/
theorem Blocks.scores (B : Blocks σ v q a Q K V KC VC) {c : ℕ} (hc : c < 8) (r : Fin 2048) :
    k0_pay4 (F := Ideal) (kchunk K c) Q (ix2 r q) = (σ (2048 * c + r) : EReal) := by
  rw [scores_apply, B.sum hc]

/-- Their maximum is a real number. -/
theorem Blocks.realMax (B : Blocks σ v q a Q K V KC VC) {c : ℕ} (hc : c < 8) :
    ∃ x : ℝ, k0_pay5 (F := Ideal) (kchunk K c) Q (ix2 0 q) = (x : EReal) := by
  rw [max_apply]
  exact fold_real _ fun r => ⟨_, B.sum hc r⟩

/-- The scores of the context block. -/
theorem Blocks.cscores (B : Blocks σ v q a Q K V KC VC) (r : Fin 256) : k0_pay184 (F := Ideal) KC Q (ix2 r q) = (σ (16384 + r) : EReal) := by
  rw [cscores_apply, B.kc]

/-- Their maximum is a real number. -/
theorem Blocks.realCmax (B : Blocks σ v q a Q K V KC VC) : ∃ x : ℝ, k0_pay185 (F := Ideal) KC Q (ix2 0 q) = (x : EReal) := by
  rw [cmax_apply]
  exact fold_real _ fun r => ⟨_, B.kc r⟩

/-- The row of the values over a chunk. -/
theorem Blocks.values (B : Blocks σ v q a Q K V KC VC) {c : ℕ} (hc : c < 8) (r : Fin 2048) : vchunk V c (ix2 a r) = v (2048 * c + r) := by
  rw [vchunk_apply V c hc, B.val (2048 * c + r) (by omega)]

end

/-- What the buffers hold before trip `k`, for one query and one row of the values. -/
def Inv (σ : ℕ → ℝ) (v : ℕ → EReal) (q : Fin 512) (a : Fin 128) (k : ℕ) (st : St Ideal) : Prop :=
  ∃ m M x : ℝ, Acc σ v q a (2 * k) m st.AC st.L ∧ st.A0 (ix2 0 q) = w M m
    ∧ (∀ r : Fin 2048, st.P0 (ix2 r q) = w M (σ (2048 * (2 * k) + r)))
    ∧ (∀ ρ : Fin 8, st.D0 (ix2 ρ q) = ∑ j ∈ Finset.range 256, w M (σ (8 * (256 * (2 * k) + j) + ρ)))
    ∧ st.M (ix2 0 q) = (M : EReal) ∧ st.X1 (ix2 0 q) = (x : EReal)
    ∧ ∀ r : Fin 2048, st.S1 (ix2 r q) = (σ (2048 * (2 * k + 1) + r) : EReal)

section
variable {Q : Vec Ideal S1x1x256x512 .bf16} {K : Vec Ideal S1x1x16384x256 .bf16}
    {V : Vec Ideal S1x1x32x128x512 .bf16} {KC : Vec Ideal S1x1x256x256 .bf16} {VC : Vec Ideal S1x1x1x128x256 .bf16}

/-- The greater of two reals, as extended reals. -/
theorem max_coe (x y : ℝ) : max (x : EReal) (y : EReal) = ((max x y : ℝ) : EReal) := (EReal.coe_strictMono.monotone.map_max).symm

/-- After both chunks in flight are added: the accumulators, relative to the greater maximum. -/
theorem Inv.both {k : ℕ} (hk : k < 4) {st : St Ideal} (B : Blocks σ v q a Q K V KC VC) (h : Inv σ v q a k st) :
    ∃ m : ℝ, k0_pay10 (F := Ideal) st.M st.X1 (ix2 0 q) = (m : EReal) ∧ Acc σ v q a (2 * k + 2) m
      (k0_pay99 (F := Ideal) (vchunk V (2 * k + 1)) (k0_pay98 (F := Ideal) (k0_pay12 (F := Ideal) st.M st.X1)
        (k0_pay99 (F := Ideal) (vchunk V (2 * k)) (k0_pay98 (F := Ideal) st.A0 st.AC) st.P0)) (weights (k0_pay10 (F := Ideal) st.M st.X1) st.S1))
      (k0_pay9 (F := Ideal) (k0_pay12 (F := Ideal) st.M st.X1) (k0_pay9 (F := Ideal) st.A0 st.L st.D0) (k0_pay1 (F := Ideal) (wsum (k0_pay10 (F := Ideal) st.M st.X1) st.S1))) := by
  obtain ⟨m, M, x, hA, hα, hP, hD, hM, hX, hS⟩ := h
  have hm : k0_pay10 (F := Ideal) st.M st.X1 (ix2 0 q) = ((max M x : ℝ) : EReal) := by rw [newmax_apply, hM, hX, max_coe]
  refine ⟨max M x, hm, ?_⟩
  refine (hA.step hα (B.values (by omega)) hP hD).step ?_ (B.values (by omega)) (fun r => ?_) fun ρ => ?_
  · rw [factor_apply, hM, hX, max_coe, exp2_sub]
  · rw [weights_apply, hm, hS, exp2_sub]
  · rw [id_apply, wsum_value hm hS]

/-- A trip keeps the invariant. -/
theorem Inv.next {k : ℕ} (hk : k < 3) {st : St Ideal} (B : Blocks σ v q a Q K V KC VC) (h : Inv σ v q a k st) :
    Inv σ v q a (k + 1) (st.next Q K V k) := by
  obtain ⟨m, hm, hA⟩ := h.both (by omega) B
  obtain ⟨x0, hx0⟩ := B.realMax (c := 2 * k + 2) (by omega)
  obtain ⟨x1, hx1⟩ := B.realMax (c := 2 * k + 3) (by omega)
  have hm' : k0_pay11 (F := Ideal) st.M st.X1 (ix2 0 q) = (m : EReal) := by rw [newmax_apply', ← newmax_apply, hm]
  have h2 : k0_pay10 (F := Ideal) (k0_pay11 (F := Ideal) st.M st.X1) (k0_pay5 (F := Ideal) (kchunk K (2 * k + 2)) Q) (ix2 0 q) = ((max m x0 : ℝ) : EReal) := by
    rw [newmax_apply, hm', hx0, max_coe]
  refine ⟨m, max m x0, x1, hA, ?_, fun r => ?_, fun ρ => ?_, ?_, ?_, fun r => ?_⟩
  · show k0_pay12 (F := Ideal) _ _ _ = _
    rw [factor_apply, hm', hx0, max_coe, exp2_sub]
  · show weights _ _ _ = _
    rw [weights_apply, h2, B.scores (by omega), exp2_sub]; rfl
  · show k0_pay1 (F := Ideal) (wsum (k0_pay10 (F := Ideal) (k0_pay11 (F := Ideal) st.M st.X1) (k0_pay5 (F := Ideal) (kchunk K (2 * k + 2)) Q))
      (k0_pay4 (F := Ideal) (kchunk K (2 * k + 2)) Q)) _ = _
    rw [id_apply, wsum_value (c := 2 * k + 2) h2 (B.scores (by omega)), show 2 * (k + 1) = 2 * k + 2 by ring]
  · show k0_pay11 (F := Ideal) _ _ _ = _
    rw [newmax_apply', ← newmax_apply, h2]
  · dsimp only [St.next]
    rw [max_again, hx1]
  · show k0_pay4 (F := Ideal) (kchunk K (2 * k + 3)) Q _ = _
    rw [B.scores (by omega), show 2 * (k + 1) + 1 = 2 * k + 3 by ring]

/-- The invariant holds when the loop is reached. -/
theorem Inv.init (B : Blocks σ v q a Q K V KC VC) : Inv σ v q a 0 (St.init Q K KC VC) := by
  obtain ⟨xc, hxc⟩ := B.realCmax
  obtain ⟨x0, hx0⟩ := B.realMax (c := 0) (by omega)
  obtain ⟨x1, hx1⟩ := B.realMax (c := 1) (by omega)
  have hc : k0_pay10 (F := Ideal) (k0_pay180 (F := Ideal)) (k0_pay185 (F := Ideal) KC Q) (ix2 0 q) = (xc : EReal) := by rw [newmax_apply, minf_apply, hxc]; simp
  have hc' : k0_pay11 (F := Ideal) (k0_pay180 (F := Ideal)) (k0_pay185 (F := Ideal) KC Q) (ix2 0 q) = (xc : EReal) := by rw [newmax_apply', ← newmax_apply, hc]
  have h2 : k0_pay10 (F := Ideal) (k0_pay11 (F := Ideal) (k0_pay180 (F := Ideal)) (k0_pay185 (F := Ideal) KC Q)) (k0_pay5 (F := Ideal) (kchunk K 0) Q) (ix2 0 q) = ((max xc x0 : ℝ) : EReal) := by
    rw [newmax_apply, hc', hx0, max_coe]
  refine ⟨xc, max xc x0, x1, ?_, ?_, fun r => ?_, fun ρ => ?_, ?_, ?_, fun r => ?_⟩
  · refine Acc.first B.cval (fun r => ?_) fun ρ => ?_
    · show cweights (k0_pay10 (F := Ideal) (k0_pay180 (F := Ideal)) (k0_pay185 (F := Ideal) KC Q)) _ _ = _
      rw [cweights_apply, hc, B.cscores, exp2_sub]
    · show k0_pay1 (F := Ideal) (cwsum (k0_pay10 (F := Ideal) (k0_pay180 (F := Ideal)) (k0_pay185 (F := Ideal) KC Q)) _) _ = _
      rw [id_apply, cwsum_value hc B.cscores]
  · show k0_pay12 (F := Ideal) (k0_pay11 (F := Ideal) (k0_pay180 (F := Ideal)) (k0_pay185 (F := Ideal) KC Q)) (k0_pay5 (F := Ideal) (kchunk K 0) Q) _ = _
    rw [factor_apply, hc', hx0, max_coe, exp2_sub]
  · show weights (k0_pay10 (F := Ideal) (k0_pay11 (F := Ideal) (k0_pay180 (F := Ideal)) (k0_pay185 (F := Ideal) KC Q)) (k0_pay5 (F := Ideal) (kchunk K 0) Q)) (k0_pay4 (F := Ideal) (kchunk K 0) Q) _ = _
    rw [weights_apply, h2, B.scores (by omega), exp2_sub]
  · show k0_pay1 (F := Ideal) (wsum (k0_pay10 (F := Ideal) (k0_pay11 (F := Ideal) (k0_pay180 (F := Ideal)) (k0_pay185 (F := Ideal) KC Q)) (k0_pay5 (F := Ideal) (kchunk K 0) Q)) (k0_pay4 (F := Ideal) (kchunk K 0) Q)) _ = _
    rw [id_apply, wsum_value (c := 0) h2 (B.scores (by omega))]
  · show k0_pay11 (F := Ideal) (k0_pay11 (F := Ideal) (k0_pay180 (F := Ideal)) (k0_pay185 (F := Ideal) KC Q)) (k0_pay5 (F := Ideal) (kchunk K 0) Q) _ = _
    rw [newmax_apply', ← newmax_apply, h2]
  · dsimp only [St.init]
    rw [max_first, hx1]
  · show k0_pay4 (F := Ideal) (kchunk K 1) Q _ = _
    rw [B.scores (by omega)]

/-- Before every trip the buffers hold what they should. -/
theorem Inv.at (B : Blocks σ v q a Q K V KC VC) : ∀ k ≤ 3, Inv σ v q a k (St.at Q K V KC VC k)
  | 0, _ => Inv.init B
  | k + 1, h => (Inv.at B k (by omega)).next (by omega) B

/-- The block that the body stores is the softmax of the scores applied to the values. -/
theorem out_value (B : Blocks σ v q a Q K V KC VC) : OUT Q K V KC VC (ix4 0 0 a q) = soft 16640 v σ := by
  obtain ⟨m, -, hA⟩ := (Inv.at B 3 le_rfl).both (by omega) B
  rw [← soft_of_quotient 16640 (by omega) m v σ]
  show (k0_pay2 (F := Ideal) _ _ (ix4 0 0 a q) : EReal) = _
  rw [out_apply]
  have hN : ∀ f : ℕ → EReal, ∑ r ∈ Finset.range 256, f (16384 + r) + ∑ κ ∈ Finset.range 16384, f κ
      = ∑ κ ∈ Finset.range 16640, f κ := fun f => by
    rw [add_comm]
    exact (Finset.sum_range_add f 16384 256).symm
  refine congrArg₂ Ideal.div (hA.ac.trans (hN fun κ => v κ * w m (σ κ))) ?_
  refine (Finset.sum_congr rfl fun ρ _ => hA.l ρ).trans ?_
  exact (fold_residues (fun κ => w m (σ κ)) 32 2048 16384).trans (hN fun κ => w m (σ κ))

end

end Cert.Proof.Value

end
-- ==== Proof.V.Array.lean ====
module

public import proofs.«01_k».proof.Proof.V.Loop
public import Idealize.ShloMosaic.Lib.Pipeline.ValueKit
public import Idealize.ShloMosaic.Lib.Pipeline.Covers

@[expose] public section

set_option maxRecDepth 16384

noncomputable section

namespace Cert.Proof.Value

open Cert.KernelIdeal Cert.KernelIdeal.Gen Cert.Proof.KernelIdeal Idealize.ShloMosaic Idealize.SL.Sem

/-! # The kernel's result array, entry by entry -/

variable (m : (ℓ : Loc nD τ sig) → Buf (Elt Ideal) ℓ)

/-- The scores of one query as extended reals: the latent keys first, the context keys from 16384 on. -/
def score (qT : FVec Ideal S2x8x256x16384 .bf16) (k : FVec Ideal S2x8x16384x256 .bf16) (kc : FVec Ideal S2x8x256x256 .bf16)
    (b : Fin 2) (h : Fin 8) (p : Fin 16384) (κ : ℕ) : EReal :=
  if hκ : κ < 16384 then ∑ d : Fin 256, k (ix4 b h ⟨κ, hκ⟩ d) * qT (ix4 b h d p)
  else if hκ' : κ - 16384 < 256 then ∑ d : Fin 256, kc (ix4 b h ⟨κ - 16384, hκ'⟩ d) * qT (ix4 b h d p)
  else 0

/-- One row of the values in the same order. -/
def value (vT : FVec Ideal S2x8x32x128x512 .bf16) (vTc : FVec Ideal S2x8x1x128x256 .bf16)
    (b : Fin 2) (h : Fin 8) (a : Fin 128) (κ : ℕ) : EReal :=
  if hκ : κ < 16384 then vT (ix5 b h ⟨κ / 512, by omega⟩ a ⟨κ % 512, by omega⟩)
  else if hκ' : κ - 16384 < 256 then vTc (ix5 b h 0 a ⟨κ - 16384, hκ'⟩)
  else 0

/-- The attention, entry by entry: the values weighted by the softmax in base two of the scores. -/
def attention (qT : FVec Ideal S2x8x256x16384 .bf16) (k : FVec Ideal S2x8x16384x256 .bf16) (vT : FVec Ideal S2x8x32x128x512 .bf16)
    (kc : FVec Ideal S2x8x256x256 .bf16) (vTc : FVec Ideal S2x8x1x128x256 .bf16) : FVec Ideal S2x8x128x16384 .bf16 :=
  fun i => soft 16640 (value vT vTc (i 0) (i 1) (i 2)) (fun κ => (score qT k kc (i 0) (i 1) (i 3) κ).toReal)

/-- The batch of a grid point. -/
def batch (t : Fin cfg0.N) : Fin 2 := grid0.coords t 0
/-- The head of a grid point. -/
def head (t : Fin cfg0.N) : Fin 8 := grid0.coords t 1
/-- The query tile of a grid point. -/
def tile (t : Fin cfg0.N) : Fin 32 := grid0.coords t 2
/-- The position of query `q` of a grid point in its sequence. -/
def query (t : Fin cfg0.N) (q : Fin 512) : Fin 16384 := ⟨(tile t).val * 512 + q.val, by have := (tile t).isLt; omega⟩

/-- The blocks of the grid point: query rows and output rows of tile `i`, all else of the batch and head. -/
theorem idx0 (t : Fin cfg0.N) : win0_0.index t = ![(batch t).val, (head t).val, 0, (tile t).val] :=
  (by decide +kernel : ∀ t : Fin grid0.N, win0_0.index t = ![(batch t).val, (head t).val, 0, (tile t).val]) t
/-- The keys of the point: all of the batch and head. -/
theorem idx1 (t : Fin cfg0.N) : win0_1.index t = ![(batch t).val, (head t).val, 0, 0] :=
  (by decide +kernel : ∀ t : Fin grid0.N, win0_1.index t = ![(batch t).val, (head t).val, 0, 0]) t
/-- Its values. -/
theorem idx2 (t : Fin cfg0.N) : win0_2.index t = ![(batch t).val, (head t).val, 0, 0, 0] :=
  (by decide +kernel : ∀ t : Fin grid0.N, win0_2.index t = ![(batch t).val, (head t).val, 0, 0, 0]) t
/-- Its context keys. -/
theorem idx3 (t : Fin cfg0.N) : win0_3.index t = ![(batch t).val, (head t).val, 0, 0] :=
  (by decide +kernel : ∀ t : Fin grid0.N, win0_3.index t = ![(batch t).val, (head t).val, 0, 0]) t
/-- Its context values. -/
theorem idx4 (t : Fin cfg0.N) : win0_4.index t = ![(batch t).val, (head t).val, 0, 0, 0] :=
  (by decide +kernel : ∀ t : Fin grid0.N, win0_4.index t = ![(batch t).val, (head t).val, 0, 0, 0]) t
/-- The rows of the result that it writes. -/
theorem idx5 (t : Fin cfg0.N) : win0_5.index t = ![(batch t).val, (head t).val, 0, (tile t).val] :=
  (by decide +kernel : ∀ t : Fin grid0.N, win0_5.index t = ![(batch t).val, (head t).val, 0, (tile t).val]) t

/-- An entry of the block of queries, in the array. -/
theorem blk0 (c : Dev nD) (t : Fin cfg0.N) (d : Fin 256) (q : Fin 512) :
    iblk m c 0 t (ix4 0 0 d q) = m ((c.tc : Thread nD τ).loc main_arg0) (ix4 (batch t) (head t) d (query t q)) := by
  blk_ext [iblk, V, idx0 t, query]
/-- An entry of the block of keys. -/
theorem blk1 (c : Dev nD) (t : Fin cfg0.N) (r : Fin 16384) (d : Fin 256) :
    iblk m c 1 t (ix4 0 0 r d) = m ((c.tc : Thread nD τ).loc main_arg1) (ix4 (batch t) (head t) r d) := by
  blk_ext [iblk, V, idx1 t, query]
/-- An entry of the block of values. -/
theorem blk2 (c : Dev nD) (t : Fin cfg0.N) (j : Fin 32) (a : Fin 128) (r : Fin 512) :
    iblk m c 2 t (ix5 0 0 j a r) = m ((c.tc : Thread nD τ).loc main_arg2) (ix5 (batch t) (head t) j a r) := by
  blk_ext [iblk, V, idx2 t, query]
/-- An entry of the block of context keys. -/
theorem blk3 (c : Dev nD) (t : Fin cfg0.N) (r : Fin 256) (d : Fin 256) :
    iblk m c 3 t (ix4 0 0 r d) = m ((c.tc : Thread nD τ).loc main_arg3) (ix4 (batch t) (head t) r d) := by
  blk_ext [iblk, V, idx3 t, query]
/-- An entry of the block of context values. -/
theorem blk4 (c : Dev nD) (t : Fin cfg0.N) (a : Fin 128) (r : Fin 256) :
    iblk m c 4 t (ix5 0 0 0 a r) = m ((c.tc : Thread nD τ).loc main_arg4) (ix5 (batch t) (head t) 0 a r) := by
  blk_ext [iblk, V, idx4 t, query]

/-- The queries, latent keys and context keys of one device are real numbers. -/
structure Real (qT : FVec Ideal S2x8x256x16384 .bf16) (k : FVec Ideal S2x8x16384x256 .bf16) (kc : FVec Ideal S2x8x256x256 .bf16) : Prop where
  q : ∀ i, ∃ x : ℝ, qT i = (x : EReal)
  key : ∀ i, ∃ x : ℝ, k i = (x : EReal)
  ckey : ∀ i, ∃ x : ℝ, kc i = (x : EReal)

/-- A sum of products of real numbers is one. -/
theorem sum_is_real {ι : Type} [Fintype ι] (f g : ι → EReal) (hf : ∀ i, ∃ x : ℝ, f i = (x : EReal)) (hg : ∀ i, ∃ x : ℝ, g i = (x : EReal)) :
    ∑ i, f i * g i = ((∑ i, f i * g i).toReal : EReal) := by
  choose x hx using hf
  choose y hy using hg
  have e : ∑ i, f i * g i = ((∑ i, x i * y i : ℝ) : EReal) := by
    rw [coe_sum]
    exact Finset.sum_congr rfl fun i _ => by rw [hx, hy, EReal.coe_mul]
  rw [e, EReal.toReal_coe]

/-- So every score is a real number. -/
theorem score_real {qT : FVec Ideal S2x8x256x16384 .bf16} {k : FVec Ideal S2x8x16384x256 .bf16} {kc : FVec Ideal S2x8x256x256 .bf16}
    (H : Real qT k kc) (b : Fin 2) (h : Fin 8) (p : Fin 16384) (κ : ℕ) :
    score qT k kc b h p κ = ((score qT k kc b h p κ).toReal : EReal) := by
  unfold score
  split_ifs
  · exact sum_is_real _ _ (fun _ => H.key _) fun _ => H.q _
  · exact sum_is_real _ _ (fun _ => H.ckey _) fun _ => H.q _
  · rfl

/-- The blocks of a grid point hold the scores and the values of its queries. -/
theorem blocks (c : Dev nD) (H : Real (m ((c.tc : Thread nD τ).loc main_arg0)) (m ((c.tc : Thread nD τ).loc main_arg1)) (m ((c.tc : Thread nD τ).loc main_arg3)))
    (t : Fin cfg0.N) (a : Fin 128) (q : Fin 512) :
    Blocks (fun κ => (score (m ((c.tc : Thread nD τ).loc main_arg0)) (m ((c.tc : Thread nD τ).loc main_arg1)) (m ((c.tc : Thread nD τ).loc main_arg3))
        (batch t) (head t) (query t q) κ).toReal)
      (value (m ((c.tc : Thread nD τ).loc main_arg2)) (m ((c.tc : Thread nD τ).loc main_arg4)) (batch t) (head t) a) q a
      (iblk m c 0 t) (iblk m c 1 t) (iblk m c 2 t) (iblk m c 3 t) (iblk m c 4 t) where
  k κ hκ := by
    rw [← score_real H]
    unfold score
    rw [dif_pos hκ]
    exact Finset.sum_congr rfl fun d _ => by rw [blk0, blk1]
  kc r := by
    rw [← score_real H]
    unfold score
    rw [dif_neg (by omega), dif_pos (by omega)]
    refine Finset.sum_congr rfl fun d _ => ?_
    rw [blk0, blk3]
    simp only [Nat.add_sub_cancel_left]
  val κ hκ := by
    unfold value
    rw [dif_pos hκ, blk2]
  cval r := by
    unfold value
    rw [dif_neg (by omega), dif_pos (by omega), blk4]
    simp only [Nat.add_sub_cancel_left]

/-- The kernel's result array is the attention of its arguments. -/
theorem final (c : Dev nD) (H : Real (m ((c.tc : Thread nD τ).loc main_arg0)) (m ((c.tc : Thread nD τ).loc main_arg1)) (m ((c.tc : Thread nD τ).loc main_arg3))) :
    (dats m 0 c).arrAt 5 cfg0.N = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  idx_vars y
  obtain rfl : y0 = 0 := Subsingleton.elim _ _
  obtain rfl : y1 = 0 := Subsingleton.elim _ _
  have e : ((View.whole main_v0).slice (win0_5.rect t)).emb (ix4 0 0 y2 y3) = ix4 (batch t) (head t) y2 (query t y3) := by
    blk_ext [idx5 t, query]
  refine Eq.trans ?_ (congrArg (attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) e.symm)
  exact out_value (blocks m c H t y2 y3)

end Cert.Proof.Value
-- ==== Proof.V.Reference.lean ====
module

public import proofs.«01_k».proof.Proof.V.Array
public import proofs.«01_k».proof.Proof.Gen.ReferenceIdeal.Run
public import Idealize.ShloMosaic.Lib.Tactic.CleanTypes

@[expose] public section

set_option maxRecDepth 16384

noncomputable section

namespace Cert.Proof.Value

open Cert.ReferenceIdeal Cert.ReferenceIdeal.Gen Cert.ReferenceIdeal.Value Idealize.ShloMosaic Idealize.SL.Sem

/-! # The reference's result array, entry by entry -/

/-- A weight over the sum of all weights, whatever the maximum they are taken relative to. -/
theorem div_weight (n : ℕ) (hn : 0 < n) (m : ℝ) (s : ℕ → ℝ) (κ : ℕ) :
    Ideal.div (w m (s κ)) (∑ j ∈ Finset.range n, w m (s j)) = (((2 : ℝ) ^ s κ / ∑ j ∈ Finset.range n, (2 : ℝ) ^ s j : ℝ) : EReal) := by
  have hz : (0 : ℝ) < ∑ j ∈ Finset.range n, (2 : ℝ) ^ (s j - m) :=
    Finset.sum_pos (fun i _ => by positivity) (by simpa using hn.ne')
  have hs : (∑ κ ∈ Finset.range n, w m (s κ)) = ((∑ j ∈ Finset.range n, (2 : ℝ) ^ (s j - m) : ℝ) : EReal) := by
    rw [coe_sum]; rfl
  have hq : (2 : ℝ) ^ s κ / ∑ j ∈ Finset.range n, (2 : ℝ) ^ s j = (2 : ℝ) ^ (s κ - m) * (∑ j ∈ Finset.range n, (2 : ℝ) ^ (s j - m))⁻¹ := by
    have : ∀ j, (2 : ℝ) ^ (s j - m) = (2 : ℝ) ^ s j / (2 : ℝ) ^ m := fun j => Real.rpow_sub (by norm_num) _ _
    have hp : (0 : ℝ) < ∑ j ∈ Finset.range n, (2 : ℝ) ^ s j := Finset.sum_pos (fun i _ => by positivity) (by simpa using hn.ne')
    simp only [this, ← Finset.sum_div]
    field_simp
  rw [hs, hq]
  unfold Ideal.div
  rw [if_neg (by exact_mod_cast hz.ne'), ← EReal.coe_inv, EReal.coe_mul]
  rfl

/-- The logarithm of the word of two is the natural logarithm of two. -/
theorem log_two : Ideal.log (Ideal.ofBits FTy.f32 1073741824#32) = (Real.log 2 : EReal) := by
  have e : Ideal.ofBits FTy.f32 1073741824#32 = ((2 : ℝ) : EReal) := by
    simp [Ideal.ofBits, Ideal.ieee]
    rw [← EReal.coe_mul]
    norm_num
  rw [e, Ideal.log_coe, if_neg (by norm_num)]

/-- A weight by the exponential function of a score times the logarithm of two is a weight in base two. -/
theorem exp_weight (μ s : ℝ) : Ideal.exp ((s : EReal) * (Real.log 2 : EReal) - (μ : EReal)) = w (μ / Real.log 2) s := by
  have h2 : Real.log 2 ≠ 0 := (Real.log_pos (by norm_num)).ne'
  rw [← EReal.coe_mul, ← EReal.coe_sub, Ideal.exp_coe]
  unfold w
  rw [Real.rpow_def_of_pos (by norm_num)]
  congr 2
  field_simp

variable (qT : FVec Ideal S2x8x256x16384 .bf16) (k : FVec Ideal S2x8x16384x256 .bf16) (vT : FVec Ideal S2x8x32x128x512 .bf16)
    (kc : FVec Ideal S2x8x256x256 .bf16) (vTc : FVec Ideal S2x8x1x128x256 .bf16) (b : Fin 2) (h : Fin 8) (a : Fin 128) (p : Fin 16384)

/-- The latent keys and the context keys, laid end to end. -/
def refKeys (k : FVec Ideal S2x8x16384x256 .bf16) (kc : FVec Ideal S2x8x256x256 .bf16) : FVec Ideal S2x8x16640x256 .bf16 :=
  concatenate S2x8x16640x256 2 [⟨S2x8x16384x256, k⟩, ⟨S2x8x256x256, kc⟩] concatenates_S2x8x16384x256_S2x8x256x256_S2x8x16640x256_d2

/-- The latent values and the context values, laid end to end. -/
def refValues (vT : FVec Ideal S2x8x32x128x512 .bf16) (vTc : FVec Ideal S2x8x1x128x256 .bf16) : FVec Ideal S2x8x16640x128 .bf16 :=
  concatenate S2x8x16640x128 2 [⟨S2x8x16384x128, (shapeCast _ (transpose S2x8x32x512x128 [0, 1, 2, 4, 3] vT transposes_S2x8x32x128x512_S2x8x32x512x128_0_1_2_4_3) shapeCasts_S2x8x32x512x128_S2x8x16384x128)⟩, ⟨S2x8x256x128, (transpose S2x8x256x128 [0, 1, 3, 2] (shapeCast _ vTc shapeCasts_S2x8x1x128x256_S2x8x128x256) transposes_S2x8x128x256_S2x8x256x128_0_1_3_2)⟩] concatenates_S2x8x16384x128_S2x8x256x128_S2x8x16640x128_d2

/-- The scores, as powers of e. -/
def refScores (qT : FVec Ideal S2x8x256x16384 .bf16) (K : FVec Ideal S2x8x16640x256 .bf16) : FVec Ideal S2x8x16384x16640 .f32 :=
  mulf (extf .f32 (truncf .bf16 (Host.dotGeneral dot_S2x8x16384x256_S2x8x16640x256_S2x8x16384x16640_3_3_2_2_01_01 none (transpose S2x8x16384x256 [0, 1, 3, 2] qT transposes_S2x8x256x16384_S2x8x16384x256_0_1_3_2) K) bitsLt_bf16_f32) bitsLt_bf16_f32) (broadcastInDim S2x8x16384x16640 ![] bcast_S_S2x8x16384x16640 (Host.log (constant S_ .f32 0x40000000#32)))

/-- Their maxima over the keys. -/
def refMax (S : FVec Ideal S2x8x16384x16640 .f32) : FVec Ideal S2x8x16384 .f32 :=
  maximumf (broadcastInDim S2x8x16384 ![] bcast_S_S2x8x16384 (constant S_ .f32 0xFF800000#32)) (Host.reduce FloatOps.maximumf S (constant S_ .f32 0xFF800000#32) reducesTo_S2x8x16384x16640_S2x8x16384_d3 h_S_)

/-- An array over the queries, repeated over the keys. -/
def refSpread (X : FVec Ideal S2x8x16384 .f32) : FVec Ideal S2x8x16384x16640 .f32 :=
  broadcastInDim S2x8x16384x16640 ![0, 1, 2, 3] bcast_S2x8x16384x1_S2x8x16384x16640_0_1_2_3 (broadcastInDim S2x8x16384x1 ![0, 1, 2] bcast_S2x8x16384_S2x8x16384x1_0_1_2 X)

/-- The weights. -/
def refWeights (S : FVec Ideal S2x8x16384x16640 .f32) : FVec Ideal S2x8x16384x16640 .f32 :=
  Host.exp (subf S (refSpread (refMax S)))

/-- The sums of the weights over the keys. -/
def refSums (W : FVec Ideal S2x8x16384x16640 .f32) : FVec Ideal S2x8x16384 .f32 :=
  Host.reduceAdd W (constant S_ .f32 0x00000000#32) reducesTo_S2x8x16384x16640_S2x8x16384_d3 h_S_

/-- The values weighted. -/
def refOut (V : FVec Ideal S2x8x16640x128 .bf16) (W : FVec Ideal S2x8x16384x16640 .f32) : FVec Ideal S2x8x128x16384 .bf16 :=
  truncf .bf16 (Host.dotGeneral dot_S2x8x16640x128_S2x8x16384x16640_S2x8x128x16384_2_3_3_2_01_01 none V (truncf .bf16 (Host.divf W (refSpread (refSums W))) bitsLt_bf16_f32)) bitsLt_bf16_f32

/-- Any key's score, the two arrays of keys laid end to end. -/
theorem score_any (x : Fin 16640) :
    (∑ d : Fin 256, (qT (ix4 b h d p) : EReal) * (if hx : x.val < 16384 then k (ix4 b h ⟨x.val, hx⟩ d)
        else kc (ix4 b h ⟨x.val - 16384, by omega⟩ d) : EReal) : EReal) = score qT k kc b h p x := by
  unfold score
  by_cases h1 : x.val < 16384
  · simp only [dif_pos h1]
    exact Finset.sum_congr rfl fun d _ => mul_comm _ _
  · have h2 : x.val - 16384 < 256 := by omega
    simp only [dif_neg h1, dif_pos h2]
    exact Finset.sum_congr rfl fun d _ => mul_comm _ _

/-- The key at a position, of the latent keys below 16384, of the context keys from there on. -/
theorem refKeys_apply (x : Fin 16640) (d : Fin 256) : (refKeys k kc (ix4 b h x d) : EReal) =
    if hx : x.val < 16384 then k (ix4 b h ⟨x.val, hx⟩ d) else kc (ix4 b h ⟨x.val - 16384, by omega⟩ d) := by
  pointwise [refKeys]

/-- The entry of a row of the values at a position. -/
theorem refValues_apply (x : Fin 16640) : (refValues vT vTc (ix4 b h x a) : EReal) = value vT vTc b h a x := by
  unfold value
  pointwise [refValues]
  by_cases h1 : x.val < 16384
  · rw [dif_pos h1, dif_pos h1]
  · rw [dif_neg h1, dif_neg h1, dif_pos (show x.val - 16384 < 256 by omega)]

/-- A score times the logarithm of two. -/
theorem refScores_apply (K : FVec Ideal S2x8x16640x256 .bf16) (x : Fin 16640) : (refScores qT K (ix4 b h p x) : EReal) =
    (∑ d : Fin 256, (qT (ix4 b h d p) : EReal) * K (ix4 b h x d)) * (Real.log 2 : EReal) := by
  rw [← log_two]
  pointwise [refScores]

/-- The greatest entry over the keys. -/
theorem refRed_apply (S : FVec Ideal S2x8x16384x16640 .f32) (z : FVec Ideal S_ .f32) : (Host.reduce (FloatOps.maximumf (F := Ideal) (φ := .f32)) S z reducesTo_S2x8x16384x16640_S2x8x16384_d3 h_S_ (ix3 b h p) : EReal) =
    Finset.univ.fold max (z (Shape.Idx.first h_S_) : EReal) (fun x : Fin 16640 => (S (ix4 b h p x) : EReal)) := by
  pointwise

/-- The greater of minus infinity and an entry is the entry. -/
theorem max_neg_inf (R : FVec Ideal S2x8x16384 .f32)  :
   ((maximumf (F := Ideal) (broadcastInDim S2x8x16384 ![] bcast_S_S2x8x16384 (constant (F := Ideal) S_ .f32 0xFF800000#32)) R) (ix3 b h p) : EReal) = R (ix3 b h p) := by
  pointwise
  rw [neg_inf]
  exact max_eq_right bot_le

/-- A maximum. -/
theorem refMax_apply (S : FVec Ideal S2x8x16384x16640 .f32) : (refMax S (ix3 b h p) : EReal) =
    Finset.univ.fold max ⊥ (fun x : Fin 16640 => (S (ix4 b h p x) : EReal)) := by
  unfold refMax
  rw [max_neg_inf, refRed_apply]
  rw [show (constant (F := Ideal) S_ .f32 0xFF800000#32 (Shape.Idx.first h_S_) : EReal) = ⊥ from neg_inf]

/-- A repeated entry. -/
theorem refSpread_apply (X : FVec Ideal S2x8x16384 .f32) (x : Fin 16640) : refSpread X (ix4 b h p x) = X (ix3 b h p) := by
  pointwise [refSpread]

/-- A weight. -/
theorem refWeights_apply (S : FVec Ideal S2x8x16384x16640 .f32) (x : Fin 16640) : (refWeights S (ix4 b h p x) : EReal) =
    Ideal.exp ((S (ix4 b h p x) : EReal) - refMax S (ix3 b h p)) := by
  rw [← refSpread_apply b h p (refMax S) x]
  pointwise [refWeights]

/-- A sum of weights. -/
theorem refSums_apply (W : FVec Ideal S2x8x16384x16640 .f32) : (refSums W (ix3 b h p) : EReal) =
    ∑ x : Fin 16640, (W (ix4 b h p x) : EReal) := by
  pointwise [refSums]

/-- An entry of the result. -/
theorem refOut_apply (V : FVec Ideal S2x8x16640x128 .bf16) (W : FVec Ideal S2x8x16384x16640 .f32) : (refOut V W (ix4 b h a p) : EReal) =
    ∑ x : Fin 16640, (V (ix4 b h x a) : EReal) * Ideal.div (W (ix4 b h p x)) (refSpread (refSums W) (ix4 b h p x)) := by
  unfold refOut
  generalize refSpread (refSums W) = D
  pointwise

/-- The reference is made of these. -/
theorem res_eq (m : (ℓ : Loc nD τ sig) → Buf (Elt Ideal) ℓ) (c : Dev nD) : res_main_v26 m c =
    refOut (refValues (m ((c.tc : Thread nD τ).loc main_arg2)) (m ((c.tc : Thread nD τ).loc main_arg4)))
      (refWeights (refScores (m ((c.tc : Thread nD τ).loc main_arg0)) (refKeys (m ((c.tc : Thread nD τ).loc main_arg1)) (m ((c.tc : Thread nD τ).loc main_arg3))))) := by
  unfold res_main_v26 refOut refSums refWeights refSpread refMax refScores refKeys refValues
  rfl

variable (m : (ℓ : Loc nD τ sig) → Buf (Elt Ideal) ℓ)

/-- With real scores the weighted values are the softmax applied to the values. -/
theorem out_soft (K : FVec Ideal S2x8x16640x256 .bf16) (V : FVec Ideal S2x8x16640x128 .bf16) (σ : ℕ → ℝ) (v : ℕ → EReal)
    (hK : ∀ x : Fin 16640, (∑ d : Fin 256, (qT (ix4 b h d p) : EReal) * K (ix4 b h x d) : EReal) = (σ x : EReal))
    (hV : ∀ x : Fin 16640, (V (ix4 b h x a) : EReal) = v x) :
    (refOut V (refWeights (refScores qT K)) (ix4 b h a p) : EReal) = soft 16640 v σ := by
  have hS : ∀ x : Fin 16640, (refScores qT K (ix4 b h p x) : EReal) = (σ x : EReal) * (Real.log 2 : EReal) := fun x => by
    rw [refScores_apply, hK]
  obtain ⟨μ, hμ⟩ : ∃ μ : ℝ, (refMax (refScores qT K) (ix3 b h p) : EReal) = (μ : EReal) := by
    rw [refMax_apply]
    exact fold_real _ fun x => ⟨σ x * Real.log 2, by rw [hS, EReal.coe_mul]⟩
  have hW : ∀ x : Fin 16640, (refWeights (refScores qT K) (ix4 b h p x) : EReal) = w (μ / Real.log 2) (σ x) := fun x => by
    rw [refWeights_apply, hμ, hS, exp_weight]
  rw [refOut_apply]
  have hD : (refSums (refWeights (refScores qT K)) (ix3 b h p) : EReal) = ∑ j ∈ Finset.range 16640, w (μ / Real.log 2) (σ j) := by
    rw [refSums_apply, Finset.sum_range]
    exact Finset.sum_congr rfl fun x _ => hW x
  unfold soft
  rw [Finset.sum_range (n := 16640)]
  refine Finset.sum_congr rfl fun x _ => ?_
  rw [hV, hW, refSpread_apply, hD, div_weight 16640 (by norm_num)]

/-- The reference's result array is the attention of its arguments. -/
theorem reference_value (c : Dev nD)
    (H : Real (m ((c.tc : Thread nD τ).loc main_arg0)) (m ((c.tc : Thread nD τ).loc main_arg1)) (m ((c.tc : Thread nD τ).loc main_arg3))) :
    res_main_v26 m c = attention (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  rw [res_eq]
  funext j
  idx_vars j
  refine out_soft _ _ _ _ _ _ _ _ _ (fun x => ?_) (fun x => refValues_apply _ _ _ _ _ x)
  refine Eq.trans ?_ (score_real H j0 j1 j3 x)
  refine Eq.trans ?_ (score_any _ _ _ j0 j1 j3 x)
  exact Finset.sum_congr rfl fun d _ => congrArg _ (refKeys_apply _ _ _ _ _ _)

end Cert.Proof.Value
-- ==== Proof.V.Finite.lean ====
module

public import proofs.«01_k».proof.Proof.V.Reference
public import proofs.«01_k».proof.Proof.Gen.Pre_finite_scores
public import Idealize.ShloMosaic.Lib.ReduceAll

@[expose] public section

set_option maxRecDepth 16384

noncomputable section

namespace Cert.Proof.Value

open Cert.Pre_finite_scores Idealize.ShloMosaic Idealize.SL.Sem

/-! # What the precondition says -/

variable (qT : FVec Ideal S2x8x256x16384 .bf16) (k : FVec Ideal S2x8x16384x256 .bf16) (vT : FVec Ideal S2x8x32x128x512 .bf16)
    (kc : FVec Ideal S2x8x256x256 .bf16) (vTc : FVec Ideal S2x8x1x128x256 .bf16)

/-- The word of minus infinity is minus infinity. -/
theorem ninf16 : Ideal.ofBits FTy.bf16 65408#16 = ⊥ := by simp [Ideal.ofBits, Ideal.ieee]
/-- The word of infinity is infinity. -/
theorem pinf16 : Ideal.ofBits FTy.bf16 32640#16 = ⊤ := by simp [Ideal.ofBits, Ideal.ieee]

/-- The bits of a conjunction of two one-bit words. -/
theorem both {x y : BitVec 1} (h : IntOp.andi x y = 1#1) : x = 1#1 ∧ y = 1#1 := by
  revert x y; decide

/-- A number that compares above minus infinity and below infinity is real. -/
theorem real_of_bits {x : EReal} (h : IntOp.andi (BitVec.ofBool (decide (Ideal.ofBits FTy.bf16 65408#16 < x)))
    (BitVec.ofBool (decide (x < Ideal.ofBits FTy.bf16 32640#16))) = 1#1) : ∃ r : ℝ, x = (r : EReal) := by
  rw [ninf16, pinf16] at h
  obtain ⟨h1, h2⟩ := both h
  have h1 : ⊥ < x := by by_contra e; simp [e] at h1
  have h2 : x < ⊤ := by by_contra e; simp [e] at h2
  exact ⟨x.toReal, (EReal.coe_toReal h2.ne h1.ne').symm⟩

/-- Under the precondition queries, latent keys and context keys are real numbers. -/
theorem real_of_pre (H : Cert.Pre_finite_scores.fn (F := Ideal) qT k vT kc vTc = fun _ => 1#1) : Real qT k kc := by
  have h := congrFun H (fun a => a.elim0)
  dsimp only [fn, fn_part1] at h
  obtain ⟨h, h3⟩ := both h
  obtain ⟨h1, h2⟩ := both h
  have : Subsingleton S_.Idx := ⟨fun _ _ => funext fun a => a.elim0⟩
  refine ⟨fun i => real_of_bits ?_, fun i => real_of_bits ?_, fun i => real_of_bits ?_⟩
  · have e := Host.reduce_andi_all _ _ _ _ _ h1 i
    pointwise at e
    exact e
  · have e := Host.reduce_andi_all _ _ _ _ _ h2 i
    pointwise at e
    exact e
  · have e := Host.reduce_andi_all _ _ _ _ _ h3 i
    pointwise at e
    exact e

end Cert.Proof.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores
public import proofs.«01_k».proof.Proof.KI.Run
public import proofs.«01_k».proof.Proof.K.Run
public import proofs.«01_k».proof.Proof.V.Finite
public import Idealize.ShloMosaic.Lib.Quiescent

@[expose] public section

noncomputable section

namespace Cert.Proof

open Idealize.ShloMosaic Idealize.SL.Sem

/-- The reference terminates, keeps its arguments, and has no semaphore to leave raised. -/
theorem quiescent_ref : Cert.quiescent_ReferenceIdeal := fun m ρ _ =>
  (θ_run _ _ _).mono (fun _ h => ⟨fun c => (h c).2, sem_eq_zero_of_no_sems (by decide) _⟩)
    (Cert.ReferenceIdeal.Value.run (F := Ideal) m ρ)

/-- With real queries and keys, the kernel and the reference leave the same array: the attention of their arguments. -/
theorem same_result : Cert.algebraic_KernelIdeal_ReferenceIdeal_pre_finite_scores := by
  intro m g m' g' hpre hargs
  have H : ∀ c, Value.Real _ _ _ := fun c => Value.real_of_pre _ _ _ _ _ (hpre c)
  refine ⟨fun c => (Cert.Proof.KernelIdeal.dats m 0 c).arrAt 5 Cert.KernelIdeal.cfg0.N, ?_, ?_⟩
  · exact (θ_run _ _ _).mono (fun _ h c => ⟨(h.1 c).1 5, Cert.Proof.KernelIdeal.args_of m h.1 c⟩) (Cert.Proof.KernelIdeal.run_main m g)
  · refine (θ_run _ _ _).mono (fun _ h c => ⟨(h c).1.trans ?_, (h c).2⟩) (Cert.ReferenceIdeal.Value.run (F := Ideal) m' g')
    obtain ⟨h0, h1, h2, h3, h4⟩ := hargs c
    refine (Value.reference_value m' c (by rw [h0, h1, h3]; exact H c)).trans ?_
    rw [h0, h1, h2, h3, h4]
    exact (Value.final m c (H c)).symm

/-- The three programs terminate, keep their arguments and leave every semaphore at zero; the ideal program is the
kernel over the extended reals; and it computes what the reference computes. -/
theorem claim : Cert.Claim := ⟨Cert.Kernel.Gen.facts, Cert.KernelIdeal.Gen.facts, Cert.ReferenceIdeal.Gen.facts,
  Cert.Pre_finite_scores.Gen.facts,
  fun m ρ _ => Cert.Proof.Kernel.quiescent m ρ, fun m ρ _ => Cert.Proof.KernelIdeal.quiescent m ρ,
  fun m ρ _ => Cert.Proof.KernelIdeal.quiescent m ρ, fun m ρ _ => quiescent_ref m ρ trivial,
  fun m ρ _ => quiescent_ref m ρ trivial, trivial, same_result⟩

end Cert.Proof

end
